-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPRefIdeal (m : (ℓ : Loc Cert.ConvPRefIdeal.nD Cert.ConvPRefIdeal.τ Cert.ConvPRefIdeal.sig) → Buf (Elt Ideal) ℓ) : Prop :=
  True

def Pre_AttS [hPre_pages_named : Cert.Pre_pages_named.Facts] (m : (ℓ : Loc Cert.AttS.nD Cert.AttS.τ Cert.AttS.sig) → Buf (Elt Bits) ℓ) : Prop :=
  ∀ c : Dev Cert.AttS.nD,
    (Cert.Pre_pages_named.fn (F := Bits) (m ((c.tc : Thread Cert.AttS.nD Cert.AttS.τ).loc Cert.AttS.main_arg0)) (m ((c.tc : Thread Cert.AttS.nD Cert.AttS.τ).loc Cert.AttS.main_arg1)) (m ((c.tc : Thread Cert.AttS.nD Cert.AttS.τ).loc Cert.AttS.main_arg2)) (m ((c.tc : Thread Cert.AttS.nD Cert.AttS.τ).loc Cert.AttS.main_arg3)) (m ((c.tc : Thread Cert.AttS.nD Cert.AttS.τ).loc Cert.AttS.main_arg4)) (m ((c.tc : Thread Cert.AttS.nD Cert.AttS.τ).loc Cert.AttS.main_arg5)) (m ((c.tc : Thread Cert.AttS.nD Cert.AttS.τ).loc Cert.AttS.main_arg6)) (m ((c.tc : Thread Cert.AttS.nD Cert.AttS.τ).loc Cert.AttS.main_arg7)) (m ((c.tc : Thread Cert.AttS.nD Cert.AttS.τ).loc Cert.AttS.main_arg8))) = (fun _ => 1#1)

def Pre_AttSIdeal [hPre_pages_named : Cert.Pre_pages_named.Facts] (m : (ℓ : Loc Cert.AttSIdeal.nD Cert.AttSIdeal.τ Cert.AttSIdeal.sig) → Buf (Elt Ideal) ℓ) : Prop :=
  ∀ c : Dev Cert.AttSIdeal.nD,
    (Cert.Pre_pages_named.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))) = (fun _ => 1#1)

def Pre_AttSIdeal_pages_named_finite [hPre_pages_named_finite : Cert.Pre_pages_named_finite.Facts] (m : (ℓ : Loc Cert.AttSIdeal.nD Cert.AttSIdeal.τ Cert.AttSIdeal.sig) → Buf (Elt Ideal) ℓ) : Prop :=
  ∀ c : Dev Cert.AttSIdeal.nD,
    (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.2.2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.2.2.2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.2.2.2.2.1 = (fun _ => 1#1)
    ∧ (Cert.Pre_pages_named_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5)) (m ((c.tc : Thread Cert.AttSIdeal.nD Cert.AttSIdeal.τ).loc Cert.AttSIdeal.main_arg6)) (m ((c.tc : Thread Cert.AttSIdeal.nD Cert.AttSIdeal.τ).loc Cert.AttSIdeal.main_arg7)) (m ((c.tc : Thread Cert.AttSIdeal.nD Cert.AttSIdeal.τ).loc Cert.AttSIdeal.main_arg8))).2.2.2.2.2.2.2 = (fun _ => 1#1)

def Pre_AttSRefIdeal (m : (ℓ : Loc Cert.AttSRefIdeal.nD Cert.AttSRefIdeal.τ Cert.AttSRefIdeal.sig) → Buf (Elt Ideal) ℓ) : Prop :=
  True

def Pre_AttSRefIdeal_pages_named_finite [hPre_pages_named_finite : Cert.Pre_pages_named_finite.Facts] (m : (ℓ : Loc Cert.AttSRefIdeal.nD Cert.AttSRefIdeal.τ Cert.AttSRefIdeal.sig) → Buf (Elt Ideal) ℓ) : Prop :=
  ∀ c : Dev Cert.AttSRefIdeal.nD,
    (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.2.2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.2.2.2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.2.2.2.2.1 = (fun _ => 1#1)
    ∧ (Cert.Pre_pages_named_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5)) (m ((c.tc : Thread Cert.AttSRefIdeal.nD Cert.AttSRefIdeal.τ).loc Cert.AttSRefIdeal.main_arg6)) (m ((c.tc : Thread Cert.AttSRefIdeal.nD Cert.AttSRefIdeal.τ).loc Cert.AttSRefIdeal.main_arg7)) (m ((c.tc : Thread Cert.AttSRefIdeal.nD Cert.AttSRefIdeal.τ).loc Cert.AttSRefIdeal.main_arg8))).2.2.2.2.2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3)
      ∧ r.2.mem ((c.tc : Thread Cert.ConvP.nD Cert.ConvP.τ).loc Cert.ConvP.main_arg4) = m ((c.tc : Thread Cert.ConvP.nD Cert.ConvP.τ).loc Cert.ConvP.main_arg4))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
      ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4))
      ∧ r.2.sem = fun _ => 0)

def quiescent_ConvPRefIdeal [hConvPRefIdeal : Cert.ConvPRefIdeal.Facts] : Prop :=
  ∀ (m : (ℓ : Loc Cert.ConvPRefIdeal.nD Cert.ConvPRefIdeal.τ Cert.ConvPRefIdeal.sig) → Buf (Elt Ideal) ℓ) (g : Dev Cert.ConvPRefIdeal.nD → PrngReg), Pre_ConvPRefIdeal m →
    θ_run (Cert.ConvPRefIdeal.defs (F := Ideal)) (onTc (τ := Cert.ConvPRefIdeal.τ) (Cert.ConvPRefIdeal.main (F := Ideal))) ⟨m, fun _ => 0, g⟩ (fun r => (∀ c : Dev Cert.ConvPRefIdeal.nD,
      r.2.mem ((c.tc : Thread Cert.ConvPRefIdeal.nD Cert.ConvPRefIdeal.τ).loc Cert.ConvPRefIdeal.main_arg0) = m ((c.tc : Thread Cert.ConvPRefIdeal.nD Cert.ConvPRefIdeal.τ).loc Cert.ConvPRefIdeal.main_arg0)
      ∧ r.2.mem ((c.tc : Thread Cert.ConvPRefIdeal.nD Cert.ConvPRefIdeal.τ).loc Cert.ConvPRefIdeal.main_arg1) = m ((c.tc : Thread Cert.ConvPRefIdeal.nD Cert.ConvPRefIdeal.τ).loc Cert.ConvPRefIdeal.main_arg1)
      ∧ r.2.mem ((c.tc : Thread Cert.ConvPRefIdeal.nD Cert.ConvPRefIdeal.τ).loc Cert.ConvPRefIdeal.main_arg2) = m ((c.tc : Thread Cert.ConvPRefIdeal.nD Cert.ConvPRefIdeal.τ).loc Cert.ConvPRefIdeal.main_arg2)
      ∧ r.2.mem ((c.tc : Thread Cert.ConvPRefIdeal.nD Cert.ConvPRefIdeal.τ).loc Cert.ConvPRefIdeal.main_arg3) = m ((c.tc : Thread Cert.ConvPRefIdeal.nD Cert.ConvPRefIdeal.τ).loc Cert.ConvPRefIdeal.main_arg3)
      ∧ r.2.mem ((c.tc : Thread Cert.ConvPRefIdeal.nD Cert.ConvPRefIdeal.τ).loc Cert.ConvPRefIdeal.main_arg4) = m ((c.tc : Thread Cert.ConvPRefIdeal.nD Cert.ConvPRefIdeal.τ).loc Cert.ConvPRefIdeal.main_arg4))
      ∧ r.2.sem = fun _ => 0)

def quiescent_AttS [hAttS : Cert.AttS.Facts] [hPre_pages_named : Cert.Pre_pages_named.Facts] : Prop :=
  ∀ (m : (ℓ : Loc Cert.AttS.nD Cert.AttS.τ Cert.AttS.sig) → Buf (Elt Bits) ℓ) (g : Dev Cert.AttS.nD → PrngReg), Pre_AttS m →
    θ_run (Cert.AttS.defs (F := Bits)) (onTc (τ := Cert.AttS.τ) (Cert.AttS.main (F := Bits))) ⟨m, fun _ => 0, g⟩ (fun r => (∀ c : Dev Cert.AttS.nD,
      r.2.mem ((c.tc : Thread Cert.AttS.nD Cert.AttS.τ).loc Cert.AttS.main_arg0) = m ((c.tc : Thread Cert.AttS.nD Cert.AttS.τ).loc Cert.AttS.main_arg0)
      ∧ r.2.mem ((c.tc : Thread Cert.AttS.nD Cert.AttS.τ).loc Cert.AttS.main_arg1) = m ((c.tc : Thread Cert.AttS.nD Cert.AttS.τ).loc Cert.AttS.main_arg1)
      ∧ r.2.mem ((c.tc : Thread Cert.AttS.nD Cert.AttS.τ).loc Cert.AttS.main_arg2) = m ((c.tc : Thread Cert.AttS.nD Cert.AttS.τ).loc Cert.AttS.main_arg2)
      ∧ r.2.mem ((c.tc : Thread Cert.AttS.nD Cert.AttS.τ).loc Cert.AttS.main_arg3) = m ((c.tc : Thread Cert.AttS.nD Cert.AttS.τ).loc Cert.AttS.main_arg3)
      ∧ r.2.mem ((c.tc : Thread Cert.AttS.nD Cert.AttS.τ).loc Cert.AttS.main_arg4) = m ((c.tc : Thread Cert.AttS.nD Cert.AttS.τ).loc Cert.AttS.main_arg4)
      ∧ r.2.mem ((c.tc : Thread Cert.AttS.nD Cert.AttS.τ).loc Cert.AttS.main_arg5) = m ((c.tc : Thread Cert.AttS.nD Cert.AttS.τ).loc Cert.AttS.main_arg5)
      ∧ r.2.mem ((c.tc : Thread Cert.AttS.nD Cert.AttS.τ).loc Cert.AttS.main_arg6) = m ((c.tc : Thread Cert.AttS.nD Cert.AttS.τ).loc Cert.AttS.main_arg6)
      ∧ r.2.mem ((c.tc : Thread Cert.AttS.nD Cert.AttS.τ).loc Cert.AttS.main_arg7) = m ((c.tc : Thread Cert.AttS.nD Cert.AttS.τ).loc Cert.AttS.main_arg7)
      ∧ r.2.mem ((c.tc : Thread Cert.AttS.nD Cert.AttS.τ).loc Cert.AttS.main_arg8) = m ((c.tc : Thread Cert.AttS.nD Cert.AttS.τ).loc Cert.AttS.main_arg8))
      ∧ r.2.sem = fun _ => 0)

def quiescent_AttSIdeal [hAttSIdeal : Cert.AttSIdeal.Facts] [hPre_pages_named : Cert.Pre_pages_named.Facts] : Prop :=
  ∀ (m : (ℓ : Loc Cert.AttSIdeal.nD Cert.AttSIdeal.τ Cert.AttSIdeal.sig) → Buf (Elt Ideal) ℓ) (g : Dev Cert.AttSIdeal.nD → PrngReg), Pre_AttSIdeal m →
    θ_run (Cert.AttSIdeal.defs (F := Ideal)) (onTc (τ := Cert.AttSIdeal.τ) (Cert.AttSIdeal.main (F := Ideal))) ⟨m, fun _ => 0, g⟩ (fun r => (∀ c : Dev Cert.AttSIdeal.nD,
      r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
      ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
      ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
      ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
      ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
      ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5)
      ∧ r.2.mem ((c.tc : Thread Cert.AttSIdeal.nD Cert.AttSIdeal.τ).loc Cert.AttSIdeal.main_arg6) = m ((c.tc : Thread Cert.AttSIdeal.nD Cert.AttSIdeal.τ).loc Cert.AttSIdeal.main_arg6)
      ∧ r.2.mem ((c.tc : Thread Cert.AttSIdeal.nD Cert.AttSIdeal.τ).loc Cert.AttSIdeal.main_arg7) = m ((c.tc : Thread Cert.AttSIdeal.nD Cert.AttSIdeal.τ).loc Cert.AttSIdeal.main_arg7)
      ∧ r.2.mem ((c.tc : Thread Cert.AttSIdeal.nD Cert.AttSIdeal.τ).loc Cert.AttSIdeal.main_arg8) = m ((c.tc : Thread Cert.AttSIdeal.nD Cert.AttSIdeal.τ).loc Cert.AttSIdeal.main_arg8))
      ∧ r.2.sem = fun _ => 0)

def quiescent_AttSIdeal_pre_pages_named_finite [hAttSIdeal : Cert.AttSIdeal.Facts] [hPre_pages_named_finite : Cert.Pre_pages_named_finite.Facts] : Prop :=
  ∀ (m : (ℓ : Loc Cert.AttSIdeal.nD Cert.AttSIdeal.τ Cert.AttSIdeal.sig) → Buf (Elt Ideal) ℓ) (g : Dev Cert.AttSIdeal.nD → PrngReg), Pre_AttSIdeal_pages_named_finite m →
    θ_run (Cert.AttSIdeal.defs (F := Ideal)) (onTc (τ := Cert.AttSIdeal.τ) (Cert.AttSIdeal.main (F := Ideal))) ⟨m, fun _ => 0, g⟩ (fun r => (∀ c : Dev Cert.AttSIdeal.nD,
      r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
      ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
      ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
      ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
      ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
      ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5)
      ∧ r.2.mem ((c.tc : Thread Cert.AttSIdeal.nD Cert.AttSIdeal.τ).loc Cert.AttSIdeal.main_arg6) = m ((c.tc : Thread Cert.AttSIdeal.nD Cert.AttSIdeal.τ).loc Cert.AttSIdeal.main_arg6)
      ∧ r.2.mem ((c.tc : Thread Cert.AttSIdeal.nD Cert.AttSIdeal.τ).loc Cert.AttSIdeal.main_arg7) = m ((c.tc : Thread Cert.AttSIdeal.nD Cert.AttSIdeal.τ).loc Cert.AttSIdeal.main_arg7)
      ∧ r.2.mem ((c.tc : Thread Cert.AttSIdeal.nD Cert.AttSIdeal.τ).loc Cert.AttSIdeal.main_arg8) = m ((c.tc : Thread Cert.AttSIdeal.nD Cert.AttSIdeal.τ).loc Cert.AttSIdeal.main_arg8))
      ∧ r.2.sem = fun _ => 0)

def quiescent_AttSRefIdeal [hAttSRefIdeal : Cert.AttSRefIdeal.Facts] : Prop :=
  ∀ (m : (ℓ : Loc Cert.AttSRefIdeal.nD Cert.AttSRefIdeal.τ Cert.AttSRefIdeal.sig) → Buf (Elt Ideal) ℓ) (g : Dev Cert.AttSRefIdeal.nD → PrngReg), Pre_AttSRefIdeal m →
    θ_run (Cert.AttSRefIdeal.defs (F := Ideal)) (onTc (τ := Cert.AttSRefIdeal.τ) (Cert.AttSRefIdeal.main (F := Ideal))) ⟨m, fun _ => 0, g⟩ (fun r => (∀ c : Dev Cert.AttSRefIdeal.nD,
      r.2.mem ((c.tc : Thread Cert.AttSRefIdeal.nD Cert.AttSRefIdeal.τ).loc Cert.AttSRefIdeal.main_arg0) = m ((c.tc : Thread Cert.AttSRefIdeal.nD Cert.AttSRefIdeal.τ).loc Cert.AttSRefIdeal.main_arg0)
      ∧ r.2.mem ((c.tc : Thread Cert.AttSRefIdeal.nD Cert.AttSRefIdeal.τ).loc Cert.AttSRefIdeal.main_arg1) = m ((c.tc : Thread Cert.AttSRefIdeal.nD Cert.AttSRefIdeal.τ).loc Cert.AttSRefIdeal.main_arg1)
      ∧ r.2.mem ((c.tc : Thread Cert.AttSRefIdeal.nD Cert.AttSRefIdeal.τ).loc Cert.AttSRefIdeal.main_arg2) = m ((c.tc : Thread Cert.AttSRefIdeal.nD Cert.AttSRefIdeal.τ).loc Cert.AttSRefIdeal.main_arg2)
      ∧ r.2.mem ((c.tc : Thread Cert.AttSRefIdeal.nD Cert.AttSRefIdeal.τ).loc Cert.AttSRefIdeal.main_arg3) = m ((c.tc : Thread Cert.AttSRefIdeal.nD Cert.AttSRefIdeal.τ).loc Cert.AttSRefIdeal.main_arg3)
      ∧ r.2.mem ((c.tc : Thread Cert.AttSRefIdeal.nD Cert.AttSRefIdeal.τ).loc Cert.AttSRefIdeal.main_arg4) = m ((c.tc : Thread Cert.AttSRefIdeal.nD Cert.AttSRefIdeal.τ).loc Cert.AttSRefIdeal.main_arg4)
      ∧ r.2.mem ((c.tc : Thread Cert.AttSRefIdeal.nD Cert.AttSRefIdeal.τ).loc Cert.AttSRefIdeal.main_arg5) = m ((c.tc : Thread Cert.AttSRefIdeal.nD Cert.AttSRefIdeal.τ).loc Cert.AttSRefIdeal.main_arg5)
      ∧ r.2.mem ((c.tc : Thread Cert.AttSRefIdeal.nD Cert.AttSRefIdeal.τ).loc Cert.AttSRefIdeal.main_arg6) = m ((c.tc : Thread Cert.AttSRefIdeal.nD Cert.AttSRefIdeal.τ).loc Cert.AttSRefIdeal.main_arg6)
      ∧ r.2.mem ((c.tc : Thread Cert.AttSRefIdeal.nD Cert.AttSRefIdeal.τ).loc Cert.AttSRefIdeal.main_arg7) = m ((c.tc : Thread Cert.AttSRefIdeal.nD Cert.AttSRefIdeal.τ).loc Cert.AttSRefIdeal.main_arg7)
      ∧ r.2.mem ((c.tc : Thread Cert.AttSRefIdeal.nD Cert.AttSRefIdeal.τ).loc Cert.AttSRefIdeal.main_arg8) = m ((c.tc : Thread Cert.AttSRefIdeal.nD Cert.AttSRefIdeal.τ).loc Cert.AttSRefIdeal.main_arg8))
      ∧ r.2.sem = fun _ => 0)

def quiescent_AttSRefIdeal_pre_pages_named_finite [hAttSRefIdeal : Cert.AttSRefIdeal.Facts] [hPre_pages_named_finite : Cert.Pre_pages_named_finite.Facts] : Prop :=
  ∀ (m : (ℓ : Loc Cert.AttSRefIdeal.nD Cert.AttSRefIdeal.τ Cert.AttSRefIdeal.sig) → Buf (Elt Ideal) ℓ) (g : Dev Cert.AttSRefIdeal.nD → PrngReg), Pre_AttSRefIdeal_pages_named_finite m →
    θ_run (Cert.AttSRefIdeal.defs (F := Ideal)) (onTc (τ := Cert.AttSRefIdeal.τ) (Cert.AttSRefIdeal.main (F := Ideal))) ⟨m, fun _ => 0, g⟩ (fun r => (∀ c : Dev Cert.AttSRefIdeal.nD,
      r.2.mem ((c.tc : Thread Cert.AttSRefIdeal.nD Cert.AttSRefIdeal.τ).loc Cert.AttSRefIdeal.main_arg0) = m ((c.tc : Thread Cert.AttSRefIdeal.nD Cert.AttSRefIdeal.τ).loc Cert.AttSRefIdeal.main_arg0)
      ∧ r.2.mem ((c.tc : Thread Cert.AttSRefIdeal.nD Cert.AttSRefIdeal.τ).loc Cert.AttSRefIdeal.main_arg1) = m ((c.tc : Thread Cert.AttSRefIdeal.nD Cert.AttSRefIdeal.τ).loc Cert.AttSRefIdeal.main_arg1)
      ∧ r.2.mem ((c.tc : Thread Cert.AttSRefIdeal.nD Cert.AttSRefIdeal.τ).loc Cert.AttSRefIdeal.main_arg2) = m ((c.tc : Thread Cert.AttSRefIdeal.nD Cert.AttSRefIdeal.τ).loc Cert.AttSRefIdeal.main_arg2)
      ∧ r.2.mem ((c.tc : Thread Cert.AttSRefIdeal.nD Cert.AttSRefIdeal.τ).loc Cert.AttSRefIdeal.main_arg3) = m ((c.tc : Thread Cert.AttSRefIdeal.nD Cert.AttSRefIdeal.τ).loc Cert.AttSRefIdeal.main_arg3)
      ∧ r.2.mem ((c.tc : Thread Cert.AttSRefIdeal.nD Cert.AttSRefIdeal.τ).loc Cert.AttSRefIdeal.main_arg4) = m ((c.tc : Thread Cert.AttSRefIdeal.nD Cert.AttSRefIdeal.τ).loc Cert.AttSRefIdeal.main_arg4)
      ∧ r.2.mem ((c.tc : Thread Cert.AttSRefIdeal.nD Cert.AttSRefIdeal.τ).loc Cert.AttSRefIdeal.main_arg5) = m ((c.tc : Thread Cert.AttSRefIdeal.nD Cert.AttSRefIdeal.τ).loc Cert.AttSRefIdeal.main_arg5)
      ∧ r.2.mem ((c.tc : Thread Cert.AttSRefIdeal.nD Cert.AttSRefIdeal.τ).loc Cert.AttSRefIdeal.main_arg6) = m ((c.tc : Thread Cert.AttSRefIdeal.nD Cert.AttSRefIdeal.τ).loc Cert.AttSRefIdeal.main_arg6)
      ∧ r.2.mem ((c.tc : Thread Cert.AttSRefIdeal.nD Cert.AttSRefIdeal.τ).loc Cert.AttSRefIdeal.main_arg7) = m ((c.tc : Thread Cert.AttSRefIdeal.nD Cert.AttSRefIdeal.τ).loc Cert.AttSRefIdeal.main_arg7)
      ∧ r.2.mem ((c.tc : Thread Cert.AttSRefIdeal.nD Cert.AttSRefIdeal.τ).loc Cert.AttSRefIdeal.main_arg8) = m ((c.tc : Thread Cert.AttSRefIdeal.nD Cert.AttSRefIdeal.τ).loc Cert.AttSRefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v22) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)) →
    ∃ (v0 : (c : Dev Cert.ConvSIdeal.nD) → Buf (Elt Ideal) ((c.tc : Thread Cert.ConvSIdeal.nD Cert.ConvSIdeal.τ).loc Cert.ConvSIdeal.main_v6_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v6_1) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v3) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6))

def preserves_ConvP_ConvPIdeal : Prop :=
  True

def algebraic_ConvPIdeal_ConvPRefIdeal [hConvPIdeal : Cert.ConvPIdeal.Facts] [hConvPRefIdeal : Cert.ConvPRefIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPRefIdeal.nD Cert.ConvPRefIdeal.τ Cert.ConvPRefIdeal.sig) → Buf (Elt Ideal) ℓ) (g' : Dev Cert.ConvPRefIdeal.nD → PrngReg), Pre_ConvPIdeal m →
    (∀ c : Dev Cert.ConvPIdeal.nD,
      m' ((c.tc : Thread Cert.ConvPRefIdeal.nD Cert.ConvPRefIdeal.τ).loc Cert.ConvPRefIdeal.main_arg0) = m ((c.tc : Thread Cert.ConvPIdeal.nD Cert.ConvPIdeal.τ).loc Cert.ConvPIdeal.main_arg0)
      ∧ m' ((c.tc : Thread Cert.ConvPRefIdeal.nD Cert.ConvPRefIdeal.τ).loc Cert.ConvPRefIdeal.main_arg1) = m ((c.tc : Thread Cert.ConvPIdeal.nD Cert.ConvPIdeal.τ).loc Cert.ConvPIdeal.main_arg1)
      ∧ m' ((c.tc : Thread Cert.ConvPRefIdeal.nD Cert.ConvPRefIdeal.τ).loc Cert.ConvPRefIdeal.main_arg2) = m ((c.tc : Thread Cert.ConvPIdeal.nD Cert.ConvPIdeal.τ).loc Cert.ConvPIdeal.main_arg2)
      ∧ m' ((c.tc : Thread Cert.ConvPRefIdeal.nD Cert.ConvPRefIdeal.τ).loc Cert.ConvPRefIdeal.main_arg3) = m ((c.tc : Thread Cert.ConvPIdeal.nD Cert.ConvPIdeal.τ).loc Cert.ConvPIdeal.main_arg3)
      ∧ m' ((c.tc : Thread Cert.ConvPRefIdeal.nD Cert.ConvPRefIdeal.τ).loc Cert.ConvPRefIdeal.main_arg4) = m ((c.tc : Thread Cert.ConvPIdeal.nD Cert.ConvPIdeal.τ).loc Cert.ConvPIdeal.main_arg4)) →
    ∃ (v0 : (c : Dev Cert.ConvPIdeal.nD) → Buf (Elt Ideal) ((c.tc : Thread Cert.ConvPIdeal.nD Cert.ConvPIdeal.τ).loc Cert.ConvPIdeal.main_v7_1)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v7_1) = v0 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
          ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4))
      ∧ θ_run (Cert.ConvPRefIdeal.defs (F := Ideal)) (onTc (τ := Cert.ConvPRefIdeal.τ) (Cert.ConvPRefIdeal.main (F := Ideal))) ⟨m', fun _ => 0, g'⟩ (fun r => ∀ c : Dev Cert.ConvPRefIdeal.nD,
          r.2.mem ((c.tc : Thread Cert.ConvPRefIdeal.nD Cert.ConvPRefIdeal.τ).loc Cert.ConvPRefIdeal.main_v4) = v0 c
          ∧ r.2.mem ((c.tc : Thread Cert.ConvPRefIdeal.nD Cert.ConvPRefIdeal.τ).loc Cert.ConvPRefIdeal.main_arg0) = m' ((c.tc : Thread Cert.ConvPRefIdeal.nD Cert.ConvPRefIdeal.τ).loc Cert.ConvPRefIdeal.main_arg0)
          ∧ r.2.mem ((c.tc : Thread Cert.ConvPRefIdeal.nD Cert.ConvPRefIdeal.τ).loc Cert.ConvPRefIdeal.main_arg1) = m' ((c.tc : Thread Cert.ConvPRefIdeal.nD Cert.ConvPRefIdeal.τ).loc Cert.ConvPRefIdeal.main_arg1)
          ∧ r.2.mem ((c.tc : Thread Cert.ConvPRefIdeal.nD Cert.ConvPRefIdeal.τ).loc Cert.ConvPRefIdeal.main_arg2) = m' ((c.tc : Thread Cert.ConvPRefIdeal.nD Cert.ConvPRefIdeal.τ).loc Cert.ConvPRefIdeal.main_arg2)
          ∧ r.2.mem ((c.tc : Thread Cert.ConvPRefIdeal.nD Cert.ConvPRefIdeal.τ).loc Cert.ConvPRefIdeal.main_arg3) = m' ((c.tc : Thread Cert.ConvPRefIdeal.nD Cert.ConvPRefIdeal.τ).loc Cert.ConvPRefIdeal.main_arg3)
          ∧ r.2.mem ((c.tc : Thread Cert.ConvPRefIdeal.nD Cert.ConvPRefIdeal.τ).loc Cert.ConvPRefIdeal.main_arg4) = m' ((c.tc : Thread Cert.ConvPRefIdeal.nD Cert.ConvPRefIdeal.τ).loc Cert.ConvPRefIdeal.main_arg4))

def preserves_AttS_AttSIdeal : Prop :=
  IdealRules.named_const.Statement Cert.AttSIdeal.κ "mask" .f32 0xF149F2CA#32 ⊥

def algebraic_AttSIdeal_AttSRefIdeal_pre_pages_named_finite [hAttSIdeal : Cert.AttSIdeal.Facts] [hAttSRefIdeal : Cert.AttSRefIdeal.Facts] [hPre_pages_named_finite : Cert.Pre_pages_named_finite.Facts] : Prop :=
  ∀ (m : (ℓ : Loc Cert.AttSIdeal.nD Cert.AttSIdeal.τ Cert.AttSIdeal.sig) → Buf (Elt Ideal) ℓ) (g : Dev Cert.AttSIdeal.nD → PrngReg)
    (m' : (ℓ : Loc Cert.AttSRefIdeal.nD Cert.AttSRefIdeal.τ Cert.AttSRefIdeal.sig) → Buf (Elt Ideal) ℓ) (g' : Dev Cert.AttSRefIdeal.nD → PrngReg), Pre_AttSIdeal_pages_named_finite m →
    (∀ c : Dev Cert.AttSIdeal.nD,
      m' ((c.tc : Thread Cert.AttSRefIdeal.nD Cert.AttSRefIdeal.τ).loc Cert.AttSRefIdeal.main_arg0) = m ((c.tc : Thread Cert.AttSIdeal.nD Cert.AttSIdeal.τ).loc Cert.AttSIdeal.main_arg0)
      ∧ m' ((c.tc : Thread Cert.AttSRefIdeal.nD Cert.AttSRefIdeal.τ).loc Cert.AttSRefIdeal.main_arg1) = m ((c.tc : Thread Cert.AttSIdeal.nD Cert.AttSIdeal.τ).loc Cert.AttSIdeal.main_arg1)
      ∧ m' ((c.tc : Thread Cert.AttSRefIdeal.nD Cert.AttSRefIdeal.τ).loc Cert.AttSRefIdeal.main_arg2) = m ((c.tc : Thread Cert.AttSIdeal.nD Cert.AttSIdeal.τ).loc Cert.AttSIdeal.main_arg2)
      ∧ m' ((c.tc : Thread Cert.AttSRefIdeal.nD Cert.AttSRefIdeal.τ).loc Cert.AttSRefIdeal.main_arg3) = m ((c.tc : Thread Cert.AttSIdeal.nD Cert.AttSIdeal.τ).loc Cert.AttSIdeal.main_arg3)
      ∧ m' ((c.tc : Thread Cert.AttSRefIdeal.nD Cert.AttSRefIdeal.τ).loc Cert.AttSRefIdeal.main_arg4) = m ((c.tc : Thread Cert.AttSIdeal.nD Cert.AttSIdeal.τ).loc Cert.AttSIdeal.main_arg4)
      ∧ m' ((c.tc : Thread Cert.AttSRefIdeal.nD Cert.AttSRefIdeal.τ).loc Cert.AttSRefIdeal.main_arg5) = m ((c.tc : Thread Cert.AttSIdeal.nD Cert.AttSIdeal.τ).loc Cert.AttSIdeal.main_arg5)
      ∧ m' ((c.tc : Thread Cert.AttSRefIdeal.nD Cert.AttSRefIdeal.τ).loc Cert.AttSRefIdeal.main_arg6) = m ((c.tc : Thread Cert.AttSIdeal.nD Cert.AttSIdeal.τ).loc Cert.AttSIdeal.main_arg6)
      ∧ m' ((c.tc : Thread Cert.AttSRefIdeal.nD Cert.AttSRefIdeal.τ).loc Cert.AttSRefIdeal.main_arg7) = m ((c.tc : Thread Cert.AttSIdeal.nD Cert.AttSIdeal.τ).loc Cert.AttSIdeal.main_arg7)
      ∧ m' ((c.tc : Thread Cert.AttSRefIdeal.nD Cert.AttSRefIdeal.τ).loc Cert.AttSRefIdeal.main_arg8) = m ((c.tc : Thread Cert.AttSIdeal.nD Cert.AttSIdeal.τ).loc Cert.AttSIdeal.main_arg8)) →
    ∃ (v0 : (c : Dev Cert.AttSIdeal.nD) → Buf (Elt Ideal) ((c.tc : Thread Cert.AttSIdeal.nD Cert.AttSIdeal.τ).loc Cert.AttSIdeal.main_v0)),
      θ_run (Cert.AttSIdeal.defs (F := Ideal)) (onTc (τ := Cert.AttSIdeal.τ) (Cert.AttSIdeal.main (F := Ideal))) ⟨m, fun _ => 0, g⟩ (fun r => ∀ c : Dev Cert.AttSIdeal.nD,
          r.2.mem ((c.tc : Thread Cert.AttSIdeal.nD Cert.AttSIdeal.τ).loc Cert.AttSIdeal.main_v0) = v0 c
          ∧ r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
          ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
          ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
          ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
          ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
          ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5)
          ∧ r.2.mem ((c.tc : Thread Cert.AttSIdeal.nD Cert.AttSIdeal.τ).loc Cert.AttSIdeal.main_arg6) = m ((c.tc : Thread Cert.AttSIdeal.nD Cert.AttSIdeal.τ).loc Cert.AttSIdeal.main_arg6)
          ∧ r.2.mem ((c.tc : Thread Cert.AttSIdeal.nD Cert.AttSIdeal.τ).loc Cert.AttSIdeal.main_arg7) = m ((c.tc : Thread Cert.AttSIdeal.nD Cert.AttSIdeal.τ).loc Cert.AttSIdeal.main_arg7)
          ∧ r.2.mem ((c.tc : Thread Cert.AttSIdeal.nD Cert.AttSIdeal.τ).loc Cert.AttSIdeal.main_arg8) = m ((c.tc : Thread Cert.AttSIdeal.nD Cert.AttSIdeal.τ).loc Cert.AttSIdeal.main_arg8))
      ∧ θ_run (Cert.AttSRefIdeal.defs (F := Ideal)) (onTc (τ := Cert.AttSRefIdeal.τ) (Cert.AttSRefIdeal.main (F := Ideal))) ⟨m', fun _ => 0, g'⟩ (fun r => ∀ c : Dev Cert.AttSRefIdeal.nD,
          r.2.mem ((c.tc : Thread Cert.AttSRefIdeal.nD Cert.AttSRefIdeal.τ).loc Cert.AttSRefIdeal.main_v107) = v0 c
          ∧ r.2.mem ((c.tc : Thread Cert.AttSRefIdeal.nD Cert.AttSRefIdeal.τ).loc Cert.AttSRefIdeal.main_arg0) = m' ((c.tc : Thread Cert.AttSRefIdeal.nD Cert.AttSRefIdeal.τ).loc Cert.AttSRefIdeal.main_arg0)
          ∧ r.2.mem ((c.tc : Thread Cert.AttSRefIdeal.nD Cert.AttSRefIdeal.τ).loc Cert.AttSRefIdeal.main_arg1) = m' ((c.tc : Thread Cert.AttSRefIdeal.nD Cert.AttSRefIdeal.τ).loc Cert.AttSRefIdeal.main_arg1)
          ∧ r.2.mem ((c.tc : Thread Cert.AttSRefIdeal.nD Cert.AttSRefIdeal.τ).loc Cert.AttSRefIdeal.main_arg2) = m' ((c.tc : Thread Cert.AttSRefIdeal.nD Cert.AttSRefIdeal.τ).loc Cert.AttSRefIdeal.main_arg2)
          ∧ r.2.mem ((c.tc : Thread Cert.AttSRefIdeal.nD Cert.AttSRefIdeal.τ).loc Cert.AttSRefIdeal.main_arg3) = m' ((c.tc : Thread Cert.AttSRefIdeal.nD Cert.AttSRefIdeal.τ).loc Cert.AttSRefIdeal.main_arg3)
          ∧ r.2.mem ((c.tc : Thread Cert.AttSRefIdeal.nD Cert.AttSRefIdeal.τ).loc Cert.AttSRefIdeal.main_arg4) = m' ((c.tc : Thread Cert.AttSRefIdeal.nD Cert.AttSRefIdeal.τ).loc Cert.AttSRefIdeal.main_arg4)
          ∧ r.2.mem ((c.tc : Thread Cert.AttSRefIdeal.nD Cert.AttSRefIdeal.τ).loc Cert.AttSRefIdeal.main_arg5) = m' ((c.tc : Thread Cert.AttSRefIdeal.nD Cert.AttSRefIdeal.τ).loc Cert.AttSRefIdeal.main_arg5)
          ∧ r.2.mem ((c.tc : Thread Cert.AttSRefIdeal.nD Cert.AttSRefIdeal.τ).loc Cert.AttSRefIdeal.main_arg6) = m' ((c.tc : Thread Cert.AttSRefIdeal.nD Cert.AttSRefIdeal.τ).loc Cert.AttSRefIdeal.main_arg6)
          ∧ r.2.mem ((c.tc : Thread Cert.AttSRefIdeal.nD Cert.AttSRefIdeal.τ).loc Cert.AttSRefIdeal.main_arg7) = m' ((c.tc : Thread Cert.AttSRefIdeal.nD Cert.AttSRefIdeal.τ).loc Cert.AttSRefIdeal.main_arg7)
          ∧ r.2.mem ((c.tc : Thread Cert.AttSRefIdeal.nD Cert.AttSRefIdeal.τ).loc Cert.AttSRefIdeal.main_arg8) = m' ((c.tc : Thread Cert.AttSRefIdeal.nD Cert.AttSRefIdeal.τ).loc Cert.AttSRefIdeal.main_arg8))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hGate : Cert.Gate.Facts) (hGateIdeal : Cert.GateIdeal.Facts) (hGateRefIdeal : Cert.GateRefIdeal.Facts) (hConvS : Cert.ConvS.Facts) (hConvSIdeal : Cert.ConvSIdeal.Facts) (hConvSRefIdeal : Cert.ConvSRefIdeal.Facts) (hConvP : Cert.ConvP.Facts) (hConvPIdeal : Cert.ConvPIdeal.Facts) (hConvPRefIdeal : Cert.ConvPRefIdeal.Facts) (hAttS : Cert.AttS.Facts) (hAttSIdeal : Cert.AttSIdeal.Facts) (hAttSRefIdeal : Cert.AttSRefIdeal.Facts) (hPre_pages_named : Cert.Pre_pages_named.Facts) (hPre_pages_named_finite : Cert.Pre_pages_named_finite.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_Gate (hGate := hGate)
    ∧ quiescent_GateIdeal (hGateIdeal := hGateIdeal)
    ∧ quiescent_GateRefIdeal (hGateRefIdeal := hGateRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_ConvP (hConvP := hConvP)
    ∧ quiescent_ConvPIdeal (hConvPIdeal := hConvPIdeal)
    ∧ quiescent_ConvPRefIdeal (hConvPRefIdeal := hConvPRefIdeal)
    ∧ quiescent_AttS (hAttS := hAttS) (hPre_pages_named := hPre_pages_named)
    ∧ quiescent_AttSIdeal (hAttSIdeal := hAttSIdeal) (hPre_pages_named := hPre_pages_named)
    ∧ quiescent_AttSIdeal_pre_pages_named_finite (hAttSIdeal := hAttSIdeal) (hPre_pages_named_finite := hPre_pages_named_finite)
    ∧ quiescent_AttSRefIdeal (hAttSRefIdeal := hAttSRefIdeal)
    ∧ quiescent_AttSRefIdeal_pre_pages_named_finite (hAttSRefIdeal := hAttSRefIdeal) (hPre_pages_named_finite := hPre_pages_named_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_Gate_GateIdeal
    ∧ algebraic_GateIdeal_GateRefIdeal (hGateIdeal := hGateIdeal) (hGateRefIdeal := hGateRefIdeal)
    ∧ preserves_ConvS_ConvSIdeal
    ∧ algebraic_ConvSIdeal_ConvSRefIdeal (hConvSIdeal := hConvSIdeal) (hConvSRefIdeal := hConvSRefIdeal)
    ∧ preserves_ConvP_ConvPIdeal
    ∧ algebraic_ConvPIdeal_ConvPRefIdeal (hConvPIdeal := hConvPIdeal) (hConvPRefIdeal := hConvPRefIdeal)
    ∧ preserves_AttS_AttSIdeal
    ∧ algebraic_AttSIdeal_AttSRefIdeal_pre_pages_named_finite (hAttSIdeal := hAttSIdeal) (hAttSRefIdeal := hAttSRefIdeal) (hPre_pages_named_finite := hPre_pages_named_finite)
-- ==== Pre_pages_named.lean ====
abbrev S8x128 : Shape := ⟨2, ![8, 128]⟩
abbrev S8256x5632 : Shape := ⟨2, ![8256, 5632]⟩
abbrev S4x1280x128x1024 : Shape := ⟨4, ![4, 1280, 128, 1024]⟩
abbrev S1x64 : Shape := ⟨2, ![1, 64]⟩
abbrev S1x128 : Shape := ⟨2, ![1, 128]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : IVec S8x128 32) (main_arg1 : FVec F S8256x5632 .f32) (main_arg2 : FVec F S4x1280x128x1024 .f32) (main_arg3 : FVec F S4x1280x128x1024 .f32) (main_arg4 : FVec F S1x64 .f32) (main_arg5 : FVec F S1x64 .f32) (main_arg6 : FVec F S1x64 .f32) (main_arg7 : FVec F S1x64 .f32) (main_arg8 : FVec F S1x128 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 1280#32
  let main_v2 : IVec S8x128 32 := broadcastInDim S8x128 ![] bcast_S_S8x128 main_c_0
  let main_v3 : IVec S8x128 1 := cmpi .slt main_arg0 main_v2
  let main_v4 : IVec S8x128 1 := andi main_v1 main_v3
  main_v4
-- ==== Pre_pages_named_finite.lean ====
abbrev S8x128 : Shape := ⟨2, ![8, 128]⟩
abbrev S8256x5632 : Shape := ⟨2, ![8256, 5632]⟩
abbrev S4x1280x128x1024 : Shape := ⟨4, ![4, 1280, 128, 1024]⟩
abbrev S1x64 : Shape := ⟨2, ![1, 64]⟩
abbrev S1x128 : Shape := ⟨2, ![1, 128]⟩
abbrev S_ : Shape := ⟨0, ![]⟩

class Facts : Prop where
  bcast_S_S8x128 : S_.BroadcastsInDim S8x128 (![] : Fin 0 → Fin S8x128.rank)
  bcast_S_S8256x5632 : S_.BroadcastsInDim S8256x5632 (![] : Fin 0 → Fin S8256x5632.rank)
  bcast_S_S4x1280x128x1024 : S_.BroadcastsInDim S4x1280x128x1024 (![] : Fin 0 → Fin S4x1280x128x1024.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_v4 : IVec S8x128 1) (main_v7 : IVec S8256x5632 1) (main_v10 : IVec S4x1280x128x1024 1) (main_v13 : IVec S4x1280x128x1024 1) (main_v16 : IVec S1x64 1) (main_v17 : FVec F S1x64 .f32) : IVec S8x128 1 × IVec S8256x5632 1 × IVec S4x1280x128x1024 1 × IVec S4x1280x128x1024 1 × IVec S1x64 1 × IVec S1x64 1 × IVec S1x64 1 × IVec S1x64 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_v20 : FVec F S1x64 .f32 := Host.absf main_arg6
  let main_cst_5 : FVec F S_ .f32 := constant S_ .f32 0x7F800000#32
  let main_v21 : FVec F S1x64 .f32 := broadcastInDim S1x64 ![] bcast_S_S1x64 main_cst_5
  let main_v22 : IVec S1x64 1 := cmpf .olt main_v20 main_v21
  let main_v23 : FVec F S1x64 .f32 := Host.absf main_arg7
  let main_cst_6 : FVec F S_ .f32 := constant S_ .f32 0x7F800000#32
  let main_v24 : FVec F S1x64 .f32 := broadcastInDim S1x64 ![] bcast_S_S1x64 main_cst_6
  let main_v25 : IVec S1x64 1 := cmpf .olt main_v23 main_v24
  (main_v4, main_v7, main_v10, main_v13, main_v16, main_v19, main_v22, main_v25)

def fn {F : FTy → Type} [FloatOps F] (main_arg0 : IVec S8x128 32) (main_arg1 : FVec F S8256x5632 .f32) (main_arg2 : FVec F S4x1280x128x1024 .f32) (main_arg3 : FVec F S4x1280x128x1024 .f32) (main_arg4 : FVec F S1x64 .f32) (main_arg5 : FVec F S1x64 .f32) (main_arg6 : FVec F S1x64 .f32) (main_arg7 : FVec F S1x64 .f32) (main_arg8 : FVec F S1x128 .f32) : IVec S8x128 1 × IVec S8256x5632 1 × IVec S4x1280x128x1024 1 × IVec S4x1280x128x1024 1 × IVec S1x64 1 × IVec S1x64 1 × IVec S1x64 1 × IVec S1x64 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 1280#32
  let main_v2 : IVec S8x128 32 := broadcastInDim S8x128 ![] bcast_S_S8x128 main_c_0
  let main_v3 : IVec S8x128 1 := cmpi .slt main_arg0 main_v2
  let main_v4 : IVec S8x128 1 := andi main_v1 main_v3
  let main_v5 : FVec F S8256x5632 .f32 := Host.absf main_arg1
  let main_cst : FVec F S_ .f32 := constant S_ .f32 0x7F800000#32
  let main_v6 : FVec F S8256x5632 .f32 := broadcastInDim S8256x5632 ![] bcast_S_S8256x5632 main_cst
  let main_v7 : IVec S8256x5632 1 := cmpf .olt main_v5 main_v6
  let main_v8 : FVec F S4x1280x128x1024 .f32 := Host.absf main_arg2
  let main_cst_1 : FVec F S_ .f32 := constant S_ .f32 0x7F800000#32
  let main_v9 : FVec F S4x1280x128x1024 .f32 := broadcastInDim S4x1280x128x1024 ![] bcast_S_S4x1280x128x1024 main_cst_1
  let main_v10 : IVec S4x1280x128x1024 1 := cmpf .olt main_v8 main_v9
  let main_v11 : FVec F S4x1280x128x1024 .f32 := Host.absf main_arg3
  let main_cst_2 : FVec F S_ .f32 := constant S_ .f32 0x7F800000#32
  let main_v12 : FVec F S4x1280x128x1024 .f32 := broadcastInDim S4x1280x128x1024 ![] bcast_S_S4x1280x128x1024 main_cst_2
  let main_v13 : IVec S4x1280x128x1024 1 := cmpf .olt main_v11 main_v12
  let main_v14 : FVec F S1x64 .f32 := Host.absf main_arg4
  let main_cst_3 : FVec F S_ .f32 := constant S_ .f32 0x7F800000#32
  let main_v15 : FVec F S1x64 .f32 := broadcastInDim S1x64 ![] bcast_S_S1x64 main_cst_3
  let main_v16 : IVec S1x64 1 := cmpf .olt main_v14 main_v15
  let main_v17 : FVec F S1x64 .f32 := Host.absf main_arg5
  fn_part1 (F := F) main_arg6 main_arg7 main_v4 main_v7 main_v10 main_v13 main_v16 main_v17
-- ==== Ffn.lean ====
abbrev S8256x2048 : Shape := ⟨2, ![8256, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S688x2048 : Shape := ⟨2, ![688, 2048]⟩
abbrev S2048x512 : Shape := ⟨2, ![2048, 512]⟩
abbrev S512x2048 : Shape := ⟨2, ![512, 2048]⟩
abbrev S688 : Shape := ⟨1, ![688]⟩
abbrev S688x1 : Shape := ⟨2, ![688, 1]⟩
abbrev S688x512 : Shape := ⟨2, ![688, 512]⟩

abbrev nBuf : Space → Nat
  | .hbm => 10
  | .vmem => 13
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | .local _ .vmem, ⟨12, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8256x2048 : Shape := ⟨2, ![8256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x5632 : Shape := ⟨2, ![8256, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S8256x5632, .f32⟩
  | .hbm, ⟨22, _⟩ => ⟨S8256x5632, .f32⟩
  | .hbm, ⟨23, _⟩ => ⟨S8256x5632, .f32⟩
  | .hbm, ⟨24, _⟩ => ⟨S_, .f32⟩
  | .hbm, ⟨25, _⟩ => ⟨S8256x5632, .f32⟩
  | .hbm, ⟨26, _⟩ => ⟨S8256x5632, .f32⟩
  | .hbm, ⟨27, _⟩ => ⟨S_, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S8256x5632, .f32⟩
  | .hbm, ⟨32, _⟩ => ⟨S8256x5632, .f32⟩
  | .hbm, ⟨33, _⟩ => ⟨S8256x2048, .f32⟩
  | .hbm, ⟨34, _⟩ => ⟨S_, .f32⟩
  | .hbm, ⟨35, _⟩ => ⟨S8256x2048, .f32⟩
  | .hbm, ⟨36, _⟩ => ⟨S8256x2048, .f32⟩
  | .hbm, ⟨37, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proj.lean ====
abbrev S8256x2048 : Shape := ⟨2, ![8256, 2048]⟩
abbrev S2048 : Shape := ⟨1, ![2048]⟩
abbrev S2048x5640 : Shape := ⟨2, ![2048, 5640]⟩
abbrev S_ : Shape := ⟨0, ![]⟩
abbrev S2048x5760 : Shape := ⟨2, ![2048, 5760]⟩
abbrev S1x2048 : Shape := ⟨2, ![1, 2048]⟩
abbrev S8256x5760 : Shape := ⟨2, ![8256, 5760]⟩
abbrev S688x2048 : Shape := ⟨2, ![688, 2048]⟩
abbrev S2048x1152 : Shape := ⟨2, ![2048, 1152]⟩
abbrev S688x1152 : Shape := ⟨2, ![688, 1152]⟩
abbrev S688 : Shape := ⟨1, ![688]⟩
abbrev S688x1 : Shape := ⟨2, ![688, 1]⟩

abbrev nBuf : Space → Nat
  | .hbm => 9
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5640, .f32⟩
  | .hbm, ⟨3, _⟩ => ⟨S_, .i32⟩
  | .hbm, ⟨4, _⟩ => ⟨S_, .f32⟩
  | .hbm, ⟨5, _⟩ => ⟨S2048x5760, .f32⟩
  | .hbm, ⟨6, _⟩ => ⟨S2048x5760, .bf16⟩
  | .hbm, ⟨7, _⟩ => ⟨S1x2048, .f32⟩
  | .hbm, ⟨8, _⟩ => ⟨S8256x5760, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S688x1152, .f32⟩
  | .local _ .vmem, ⟨6, _⟩ => ⟨S688x1152, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8256x2048 : Shape := ⟨2, ![8256, 2048]⟩
abbrev S2048 : Shape := ⟨1, ![2048]⟩
abbrev S2048x5640 : Shape := ⟨2, ![2048, 5640]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S2048x5760 : Shape := ⟨2, ![2048, 5760]⟩
abbrev S8256x5760 : Shape := ⟨2, ![8256, 5760]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5640, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S_, .i32⟩
  | .hbm, ⟨20, _⟩ => ⟨S_, .f32⟩
  | .hbm, ⟨21, _⟩ => ⟨S2048x5760, .f32⟩
  | .hbm, ⟨22, _⟩ => ⟨S8256x5760, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Out.lean ====
abbrev S8256x2048 : Shape := ⟨2, ![8256, 2048]⟩
abbrev S8256x512 : Shape := ⟨2, ![8256, 512]⟩
abbrev S8256x1024 : Shape := ⟨2, ![8256, 1024]⟩
abbrev S2048x2048 : Shape := ⟨2, ![2048, 2048]⟩
abbrev S688x2048 : Shape := ⟨2, ![688, 2048]⟩
abbrev S688x512 : Shape := ⟨2, ![688, 512]⟩
abbrev S688x1024 : Shape := ⟨2, ![688, 1024]⟩
abbrev S512x2048 : Shape := ⟨2, ![512, 2048]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8256x2048, .f32⟩
  | .hbm, ⟨1, _⟩ => ⟨S8256x512, .f32⟩
  | .hbm, ⟨2, _⟩ => ⟨S8256x1024, .f32⟩
  | .hbm, ⟨3, _⟩ => ⟨S8256x512, .f32⟩
  | .hbm, ⟨4, _⟩ => ⟨S2048x2048, .f32⟩
  | .hbm, ⟨5, _⟩ => ⟨S2048x2048, .bf16⟩
  | .hbm, ⟨6, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S688x512, .f32⟩
  | .local _ .vmem, ⟨3, _⟩ => ⟨S688x512, .f32⟩
  | .local _ .vmem, ⟨4, _⟩ => ⟨S688x1024, .f32⟩
  | .local _ .vmem, ⟨5, _⟩ => ⟨S688x1024, .f32⟩
  | .local _ .vmem, ⟨6, _⟩ => ⟨S688x512, .f32⟩
  | .local _ .vmem, ⟨7, _⟩ => ⟨S688x512, .f32⟩
  | .local _ .vmem, ⟨8, _⟩ => ⟨S2048x2048, .bf16⟩
  | .local _ .vmem, ⟨9, _⟩ => ⟨S688x2048, .f32⟩
  | .local _ .vmem, ⟨10, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8256x2048 : Shape := ⟨2, ![8256, 2048]⟩
abbrev S8256x512 : Shape := ⟨2, ![8256, 512]⟩
abbrev S8256x1024 : Shape := ⟨2, ![8256, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S8256x512, .f32⟩
  | .hbm, ⟨2, _⟩ => ⟨S8256x1024, .f32⟩
  | .hbm, ⟨3, _⟩ => ⟨S8256x512, .f32⟩
  | .hbm, ⟨4, _⟩ => ⟨S2048x2048, .f32⟩
  | .hbm, ⟨5, _⟩ => ⟨S8256x2048, .f32⟩
  | .hbm, ⟨6, _⟩ => ⟨S8256x2048, .f32⟩
  | .hbm, ⟨7, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Ple.lean ====
abbrev S8256x2048 : Shape := ⟨2, ![8256, 2048]⟩
abbrev S2048 : Shape := ⟨1, ![2048]⟩
abbrev S2048x2048 : Shape := ⟨2, ![2048, 2048]⟩
abbrev S8256x256 : Shape := ⟨2, ![8256, 256]⟩
abbrev S256x2048 : Shape := ⟨2, ![256, 2048]⟩
abbrev S1x2048 : Shape := ⟨2, ![1, 2048]⟩
abbrev S688x2048 : Shape := ⟨2, ![688, 2048]⟩
abbrev S688x256 : Shape := ⟨2, ![688, 256]⟩
abbrev S688 : Shape := ⟨1, ![688]⟩
abbrev S688x1 : Shape := ⟨2, ![688, 1]⟩

abbrev nBuf : Space → Nat
  | .hbm => 11
  | .vmem => 10
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S8256x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x2048, .bf16⟩
  | .local _ .vmem, ⟨4, _⟩ => ⟨S688x256, .f32⟩
  | .local _ .vmem, ⟨5, _⟩ => ⟨S688x256, .f32⟩
  | .local _ .vmem, ⟨6, _⟩ => ⟨S256x2048, .bf16⟩
  | .local _ .vmem, ⟨7, _⟩ => ⟨S1x2048, .f32⟩
  | .local _ .vmem, ⟨8, _⟩ => ⟨S688x2048, .f32⟩
  | .local _ .vmem, ⟨9, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S8256x2048 : Shape := ⟨2, ![8256, 2048]⟩
abbrev S2048 : Shape := ⟨1, ![2048]⟩
abbrev S2048x2048 : Shape := ⟨2, ![2048, 2048]⟩
abbrev S8256x256 : Shape := ⟨2, ![8256, 256]⟩
abbrev S256x2048 : Shape := ⟨2, ![256, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S8256x256, .f32⟩
  | .hbm, ⟨4, _⟩ => ⟨S256x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S8256x2048, .f32⟩
  | .hbm, ⟨23, _⟩ => ⟨S8256x2048, .f32⟩
  | .hbm, ⟨24, _⟩ => ⟨S8256x2048, .f32⟩
  | .hbm, ⟨25, _⟩ => ⟨S_, .f32⟩
  | .hbm, ⟨26, _⟩ => ⟨S8256x2048, .f32⟩
  | .hbm, ⟨27, _⟩ => ⟨S8256x2048, .f32⟩
  | .hbm, ⟨28, _⟩ => ⟨S_, .f32⟩
  | .hbm, ⟨29, _⟩ => ⟨S8256x2048, .f32⟩
  | .hbm, ⟨30, _⟩ => ⟨S8256x2048, .f32⟩
  | .hbm, ⟨31, _⟩ => ⟨S8256x2048, .f32⟩
  | .hbm, ⟨32, _⟩ => ⟨S8256x2048, .f32⟩
  | .hbm, ⟨33, _⟩ => ⟨S8256x2048, .f32⟩
  | .hbm, ⟨34, _⟩ => ⟨S8256x2048, .f32⟩
  | .hbm, ⟨35, _⟩ => ⟨S_, .f32⟩
  | .hbm, ⟨36, _⟩ => ⟨S8256, .f32⟩
  | .hbm, ⟨37, _⟩ => ⟨S8256x1, .f32⟩
  | .hbm, ⟨38, _⟩ => ⟨S_, .f32⟩
  | .hbm, ⟨39, _⟩ => ⟨S8256x1, .f32⟩
  | .hbm, ⟨40, _⟩ => ⟨S8256x1, .f32⟩
  | .hbm, ⟨41, _⟩ => ⟨S_, .f32⟩
  | .hbm, ⟨42, _⟩ => ⟨S8256x1, .f32⟩
  | .hbm, ⟨43, _⟩ => ⟨S8256x1, .f32⟩
  | .hbm, ⟨44, _⟩ => ⟨S8256x1, .f32⟩
  | .hbm, ⟨45, _⟩ => ⟨S8256x2048, .f32⟩
  | .hbm, ⟨46, _⟩ => ⟨S8256x2048, .f32⟩
  | .hbm, ⟨47, _⟩ => ⟨S1x2048, .f32⟩
  | .hbm, ⟨48, _⟩ => ⟨S8256x2048, .f32⟩
  | .hbm, ⟨49, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Gate.lean ====
abbrev S8256x2048 : Shape := ⟨2, ![8256, 2048]⟩
abbrev S2048 : Shape := ⟨1, ![2048]⟩
abbrev S2048x2048 : Shape := ⟨2, ![2048, 2048]⟩
abbrev S8256x256 : Shape := ⟨2, ![8256, 256]⟩
abbrev S256x2048 : Shape := ⟨2, ![256, 2048]⟩
abbrev S1x2048 : Shape := ⟨2, ![1, 2048]⟩
abbrev S688x2048 : Shape := ⟨2, ![688, 2048]⟩
abbrev S688x256 : Shape := ⟨2, ![688, 256]⟩
abbrev S688 : Shape := ⟨1, ![688]⟩
abbrev S688x1 : Shape := ⟨2, ![688, 1]⟩

abbrev nBuf : Space → Nat
  | .hbm => 11
  | .vmem => 10
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S8256x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x2048, .bf16⟩
  | .local _ .vmem, ⟨4, _⟩ => ⟨S688x256, .f32⟩
  | .local _ .vmem, ⟨5, _⟩ => ⟨S688x256, .f32⟩
  | .local _ .vmem, ⟨6, _⟩ => ⟨S256x2048, .bf16⟩
  | .local _ .vmem, ⟨7, _⟩ => ⟨S1x2048, .f32⟩
  | .local _ .vmem, ⟨8, _⟩ => ⟨S688x2048, .f32⟩
  | .local _ .vmem, ⟨9, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S8256x2048 : Shape := ⟨2, ![8256, 2048]⟩
abbrev S2048 : Shape := ⟨1, ![2048]⟩
abbrev S2048x2048 : Shape := ⟨2, ![2048, 2048]⟩
abbrev S8256x256 : Shape := ⟨2, ![8256, 256]⟩
abbrev S256x2048 : Shape := ⟨2, ![256, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S8256x256, .f32⟩
  | .hbm, ⟨4, _⟩ => ⟨S256x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S8256x2048, .f32⟩
  | .hbm, ⟨23, _⟩ => ⟨S8256x2048, .f32⟩
  | .hbm, ⟨24, _⟩ => ⟨S8256x2048, .f32⟩
  | .hbm, ⟨25, _⟩ => ⟨S_, .f32⟩
  | .hbm, ⟨26, _⟩ => ⟨S8256x2048, .f32⟩
  | .hbm, ⟨27, _⟩ => ⟨S8256x2048, .f32⟩
  | .hbm, ⟨28, _⟩ => ⟨S_, .f32⟩
  | .hbm, ⟨29, _⟩ => ⟨S8256x2048, .f32⟩
  | .hbm, ⟨30, _⟩ => ⟨S8256x2048, .f32⟩
  | .hbm, ⟨31, _⟩ => ⟨S8256x2048, .f32⟩
  | .hbm, ⟨32, _⟩ => ⟨S8256x2048, .f32⟩
  | .hbm, ⟨33, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== ConvS.lean ====
abbrev S8256x5760 : Shape := ⟨2, ![8256, 5760]⟩
abbrev S8x3x1536 : Shape := ⟨3, ![8, 3, 1536]⟩
abbrev S8x4x128x128 : Shape := ⟨4, ![8, 4, 128, 128]⟩
abbrev S4x1536 : Shape := ⟨2, ![4, 1536]⟩
abbrev S4 : Shape := ⟨1, ![4]⟩
abbrev S128 : Shape := ⟨1, ![128]⟩
abbrev S_ : Shape := ⟨0, ![]⟩
abbrev S8x8x1536 : Shape := ⟨3, ![8, 8, 1536]⟩
abbrev S1x4 : Shape := ⟨2, ![1, 4]⟩
abbrev S1x128 : Shape := ⟨2, ![1, 128]⟩
abbrev S64x512 : Shape := ⟨2, ![64, 512]⟩
abbrev S8x512 : Shape := ⟨2, ![8, 512]⟩
abbrev S8x128 : Shape := ⟨2, ![8, 128]⟩
abbrev S1x8x1536 : Shape := ⟨3, ![1, 8, 1536]⟩
abbrev S1x4x128x128 : Shape := ⟨4, ![1, 4, 128, 128]⟩
abbrev S16x1536 : Shape := ⟨2, ![16, 1536]⟩
abbrev S4x128x128 : Shape := ⟨3, ![4, 128, 128]⟩
abbrev S8x1536 : Shape := ⟨2, ![8, 1536]⟩
abbrev S1x1536 : Shape := ⟨2, ![1, 1536]⟩
abbrev S56x128 : Shape := ⟨2, ![56, 128]⟩
abbrev S64x128 : Shape := ⟨2, ![64, 128]⟩
abbrev S64x64 : Shape := ⟨2, ![64, 64]⟩
abbrev S8 : Shape := ⟨1, ![8]⟩
abbrev S8x1 : Shape := ⟨2, ![8, 1]⟩
abbrev S64x1 : Shape := ⟨2, ![64, 1]⟩
abbrev S1x1 : Shape := ⟨2, ![1, 1]⟩
abbrev S64x256 : Shape := ⟨2, ![64, 256]⟩
abbrev S1x128x128 : Shape := ⟨3, ![1, 128, 128]⟩
abbrev S128x128 : Shape := ⟨2, ![128, 128]⟩

abbrev nBuf : Space → Nat
  | .hbm => 22
  | .vmem => 26
  | .smem => 0
  | _ => 0

abbrev bufTy : (tb : Table) → Fin (tcTables nBuf tb) → BufTy
  | .hbm, ⟨0, _⟩ => ⟨S8256x5760, .f32⟩
  | .hbm, ⟨1, _⟩ => ⟨S8x3x1536, .f32⟩
  | .hbm, ⟨2, _⟩ => ⟨S8x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S8x8x1536, .f32⟩
  | .hbm, ⟨10, _⟩ => ⟨S1x4, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x4, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S64x512, .f32⟩
  | .hbm, ⟨20, _⟩ => ⟨S8x8x1536, .f32⟩
  | .hbm, ⟨21, _⟩ => ⟨S8x4x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x128, .f32⟩
  | .local _ .vmem, ⟨9, _⟩ => ⟨S8x128, .f32⟩
  | .local _ .vmem, ⟨10, _⟩ => ⟨S1x8x1536, .f32⟩
  | .local _ .vmem, ⟨11, _⟩ => ⟨S1x8x1536, .f32⟩
  | .local _ .vmem, ⟨12, _⟩ => ⟨S1x4x128x128, .f32⟩
  | .local _ .vmem, ⟨13, _⟩ => ⟨S1x4x128x128, .f32⟩
  | .local _ .vmem, ⟨14, _⟩ => ⟨S4x1536, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S8x512, .f32⟩
  | .local _ .vmem, ⟨19, _⟩ => ⟨S8x512, .f32⟩
  | .local _ .vmem, ⟨20, _⟩ => ⟨S1x8x1536, .f32⟩
  | .local _ .vmem, ⟨21, _⟩ => ⟨S1x8x1536, .f32⟩
  | .local _ .vmem, ⟨22, _⟩ => ⟨S1x4x128x128, .f32⟩
  | .local _ .vmem, ⟨23, _⟩ => ⟨S1x4x128x128, .f32⟩
  | .local _ .vmem, ⟨24, _⟩ => ⟨S16x1536, .f32⟩
  | .local _ .vmem, ⟨25, _⟩ => ⟨S4x128x128, .f32⟩
  | _, _ => ⟨S8256x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_202 : BitVec 32 := 0#32
  let v596 : BitVec 1 := Scalar.cmpi .eq arg1 c0_i32_202
  let v597 : BitVec 32 := Scalar.extui v596
  let c0_i32_203 : BitVec 32 := 0#32
  let v598 : BitVec 1 := Scalar.cmpi .ne v597 c0_i32_203
  v598

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c7_i32 : BitVec 32 := 7#32
  let c0_i32 : BitVec 32 := 0#32
  ![v2.toNat, c7_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c8_i32 : BitVec 32 := 8#32
  let c0_i32 : BitVec 32 := 0#32
  ![v2.toNat, c8_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c9_i32 : BitVec 32 := 9#32
  let c0_i32 : BitVec 32 := 0#32
  ![v2.toNat, c9_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c10_i32 : BitVec 32 := 10#32
  let c0_i32 : BitVec 32 := 0#32
  ![v2.toNat, c10_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c44_i32 : BitVec 32 := 44#32
  let c0_i32 : BitVec 32 := 0#32
  ![v2.toNat, c44_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ConvSRefIdeal.lean ====
abbrev S8256x5760 : Shape := ⟨2, ![8256, 5760]⟩
abbrev S8x3x1536 : Shape := ⟨3, ![8, 3, 1536]⟩
abbrev S8x4x128x128 : Shape := ⟨4, ![8, 4, 128, 128]⟩
abbrev S4x1536 : Shape := ⟨2, ![4, 1536]⟩
abbrev S4 : Shape := ⟨1, ![4]⟩
abbrev S128 : Shape := ⟨1, ![128]⟩
abbrev S64x1536 : Shape := ⟨2, ![64, 1536]⟩
abbrev S8x8x1536 : Shape := ⟨3, ![8, 8, 1536]⟩
abbrev S8x11x1536 : Shape := ⟨3, ![8, 11, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8256x5760, .f32⟩
  | .hbm, ⟨1, _⟩ => ⟨S8x3x1536, .f32⟩
  | .hbm, ⟨2, _⟩ => ⟨S8x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S64x1536, .f32⟩
  | .hbm, ⟨8, _⟩ => ⟨S8x8x1536, .f32⟩
  | .hbm, ⟨9, _⟩ => ⟨S8x11x1536, .f32⟩
  | .hbm, ⟨10, _⟩ => ⟨S8x8x1536, .f32⟩
  | _, _ => ⟨S8256x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== ConvP.lean ====
abbrev S8256x5760 : Shape := ⟨2, ![8256, 5760]⟩
abbrev S4x1536 : Shape := ⟨2, ![4, 1536]⟩
abbrev S4 : Shape := ⟨1, ![4]⟩
abbrev S128 : Shape := ⟨1, ![128]⟩
abbrev S_ : Shape := ⟨0, ![]⟩
abbrev S2x8x1536 : Shape := ⟨3, ![2, 8, 1536]⟩
abbrev S2x4x128x128 : Shape := ⟨4, ![2, 4, 128, 128]⟩
abbrev S1x4 : Shape := ⟨2, ![1, 4]⟩
abbrev S1x128 : Shape := ⟨2, ![1, 128]⟩
abbrev S8192x512 : Shape := ⟨2, ![8192, 512]⟩
abbrev S64x512 : Shape := ⟨2, ![64, 512]⟩
abbrev S64x128 : Shape := ⟨2, ![64, 128]⟩
abbrev S1x8x1536 : Shape := ⟨3, ![1, 8, 1536]⟩
abbrev S1x4x128x128 : Shape := ⟨4, ![1, 4, 128, 128]⟩
abbrev S72x1536 : Shape := ⟨2, ![72, 1536]⟩
abbrev S4x128x128 : Shape := ⟨3, ![4, 128, 128]⟩
abbrev S8x1536 : Shape := ⟨2, ![8, 1536]⟩
abbrev S64x1536 : Shape := ⟨2, ![64, 1536]⟩
abbrev S1x1536 : Shape := ⟨2, ![1, 1536]⟩
abbrev S64x64 : Shape := ⟨2, ![64, 64]⟩
abbrev S64 : Shape := ⟨1, ![64]⟩
abbrev S64x1 : Shape := ⟨2, ![64, 1]⟩
abbrev S1x1 : Shape := ⟨2, ![1, 1]⟩
abbrev S64x256 : Shape := ⟨2, ![64, 256]⟩
abbrev S1x128x128 : Shape := ⟨3, ![1, 128, 128]⟩
abbrev S128x128 : Shape := ⟨2, ![128, 128]⟩

abbrev nBuf : Space → Nat
  | .hbm => 21
  | .vmem => 26
  | .smem => 0
  | _ => 0

abbrev bufTy : (tb : Table) → Fin (tcTables nBuf tb) → BufTy
  | .hbm, ⟨0, _⟩ => ⟨S8256x5760, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S_, .f32⟩
  | .hbm, ⟨6, _⟩ => ⟨S2x8x1536, .f32⟩
  | .hbm, ⟨7, _⟩ => ⟨S_, .f32⟩
  | .hbm, ⟨8, _⟩ => ⟨S2x4x128x128, .f32⟩
  | .hbm, ⟨9, _⟩ => ⟨S1x4, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x4, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S8192x512, .f32⟩
  | .hbm, ⟨19, _⟩ => ⟨S2x8x1536, .f32⟩
  | .hbm, ⟨20, _⟩ => ⟨S2x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S1x8x1536, .f32⟩
  | .local _ .vmem, ⟨11, _⟩ => ⟨S1x8x1536, .f32⟩
  | .local _ .vmem, ⟨12, _⟩ => ⟨S1x4x128x128, .f32⟩
  | .local _ .vmem, ⟨13, _⟩ => ⟨S1x4x128x128, .f32⟩
  | .local _ .vmem, ⟨14, _⟩ => ⟨S4x1536, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S64x512, .f32⟩
  | .local _ .vmem, ⟨19, _⟩ => ⟨S64x512, .f32⟩
  | .local _ .vmem, ⟨20, _⟩ => ⟨S1x8x1536, .f32⟩
  | .local _ .vmem, ⟨21, _⟩ => ⟨S1x8x1536, .f32⟩
  | .local _ .vmem, ⟨22, _⟩ => ⟨S1x4x128x128, .f32⟩
  | .local _ .vmem, ⟨23, _⟩ => ⟨S1x4x128x128, .f32⟩
  | .local _ .vmem, ⟨24, _⟩ => ⟨S72x1536, .f32⟩
  | .local _ .vmem, ⟨25, _⟩ => ⟨S4x128x128, .f32⟩
  | _, _ => ⟨S8256x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v564 : BitVec 1 := Scalar.cmpi .eq arg1 c63_i32
  let v565 : BitVec 32 := Scalar.extui v564
  let c0_i32_187 : BitVec 32 := 0#32
  let v566 : BitVec 1 := Scalar.cmpi .ne v565 c0_i32_187
  v566

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c7_i32 : BitVec 32 := 7#32
  let c0_i32_0 : BitVec 32 := 0#32
  ![v2.toNat, c7_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c9_i32 : BitVec 32 := 9#32
  let c0_i32_0 : BitVec 32 := 0#32
  ![v2.toNat, c9_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c10_i32 : BitVec 32 := 10#32
  let c0_i32_0 : BitVec 32 := 0#32
  ![v2.toNat, c10_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c44_i32 : BitVec 32 := 44#32
  let c0_i32_0 : BitVec 32 := 0#32
  ![v2.toNat, c44_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ConvPRefIdeal.lean ====
abbrev S8256x5760 : Shape := ⟨2, ![8256, 5760]⟩
abbrev S4x1536 : Shape := ⟨2, ![4, 1536]⟩
abbrev S4 : Shape := ⟨1, ![4]⟩
abbrev S128 : Shape := ⟨1, ![128]⟩
abbrev S8192x1536 : Shape := ⟨2, ![8192, 1536]⟩
abbrev S2x4096x1536 : Shape := ⟨3, ![2, 4096, 1536]⟩
abbrev S_ : Shape := ⟨0, ![]⟩
abbrev S2x3x1536 : Shape := ⟨3, ![2, 3, 1536]⟩
abbrev S2x4099x1536 : Shape := ⟨3, ![2, 4099, 1536]⟩
abbrev S2x8x1536 : Shape := ⟨3, ![2, 8, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8256x5760, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S8192x1536, .f32⟩
  | .hbm, ⟨6, _⟩ => ⟨S2x4096x1536, .f32⟩
  | .hbm, ⟨7, _⟩ => ⟨S_, .f32⟩
  | .hbm, ⟨8, _⟩ => ⟨S2x3x1536, .f32⟩
  | .hbm, ⟨9, _⟩ => ⟨S2x4099x1536, .f32⟩
  | .hbm, ⟨10, _⟩ => ⟨S2x8x1536, .f32⟩
  | _, _ => ⟨S8256x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== AttS.lean ====
abbrev S8x128 : Shape := ⟨2, ![8, 128]⟩
abbrev S8256x5632 : Shape := ⟨2, ![8256, 5632]⟩
abbrev S4x1280x128x1024 : Shape := ⟨4, ![4, 1280, 128, 1024]⟩
abbrev S1x64 : Shape := ⟨2, ![1, 64]⟩
abbrev S1x128 : Shape := ⟨2, ![1, 128]⟩
abbrev S64x1024 : Shape := ⟨2, ![64, 1024]⟩
abbrev S8x512 : Shape := ⟨2, ![8, 512]⟩
abbrev S1x1x128x1024 : Shape := ⟨4, ![1, 1, 128, 1024]⟩
abbrev S1x1 : Shape := ⟨2, ![1, 1]⟩
abbrev S8x1024 : Shape := ⟨2, ![8, 1024]⟩
abbrev S128x1024 : Shape := ⟨2, ![128, 1024]⟩
abbrev S1x128x128 : Shape := ⟨3, ![1, 128, 128]⟩
abbrev S1x128x1024 : Shape := ⟨3, ![1, 128, 1024]⟩
abbrev S128x1 : Shape := ⟨2, ![128, 1]⟩
abbrev S1x1024 : Shape := ⟨2, ![1, 1024]⟩
abbrev S128x128 : Shape := ⟨2, ![128, 128]⟩
abbrev S128 : Shape := ⟨1, ![128]⟩
abbrev S120x1024 : Shape := ⟨2, ![120, 1024]⟩
abbrev S1 : Shape := ⟨1, ![1]⟩
abbrev S8 : Shape := ⟨1, ![8]⟩
abbrev S8x1 : Shape := ⟨2, ![8, 1]⟩

abbrev nBuf : Space → Nat
  | .hbm => 9
  | .vmem => 27
  | .smem => 1
  | _ => 0

abbrev bufTy : (tb : Table) → Fin (tcTables nBuf tb) → BufTy
  | .hbm, ⟨0, _⟩ => ⟨S8256x5632, .f32⟩
  | .hbm, ⟨1, _⟩ => ⟨S4x1280x128x1024, .f32⟩
  | .hbm, ⟨2, _⟩ => ⟨S4x1280x128x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64x1024, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x128, .f32⟩
  | .local _ .vmem, ⟨21, _⟩ => ⟨S8x1024, .f32⟩
  | .local _ .vmem, ⟨22, _⟩ => ⟨S8x1024, .f32⟩
  | .local _ .vmem, ⟨23, _⟩ => ⟨S128x1024, .bf16⟩
  | .local _ .vmem, ⟨24, _⟩ => ⟨S1x128x128, .f32⟩
  | .local _ .vmem, ⟨25, _⟩ => ⟨S1x128x128, .f32⟩
  | .local _ .vmem, ⟨26, _⟩ => ⟨S1x128x1024, .f32⟩
  | .local _ .smem, ⟨0, _⟩ => ⟨S8x128, .i32⟩
  | _, _ => ⟨S8256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 128], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_cond2 (i : grid0.Coords) : BitVec 1 :=
  let arg1 : BitVec 32 := BitVec.ofNat 32 (i 1).val
  let c127_i32 : BitVec 32 := 127#32
  let v75 : BitVec 1 := Scalar.cmpi .eq arg1 c127_i32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c6_i32 : BitVec 32 := 6#32
  let c0_i32 : BitVec 32 := 0#32
  ![v0.toNat, c6_i32.toNat]

def cc0_transform_6 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x128) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_7 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x128) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== AttSIdeal.lean ====
variable {F : FTy → Type} [FloatOps F] [Named F]
def κ : String → Option EReal := fun
  | "mask" => some ⊥
  | _ => none
-- ==== AttSRefIdeal.lean ====
abbrev S8x128 : Shape := ⟨2, ![8, 128]⟩
abbrev S8256x5632 : Shape := ⟨2, ![8256, 5632]⟩
abbrev S4x1280x128x1024 : Shape := ⟨4, ![4, 1280, 128, 1024]⟩
abbrev S1x64 : Shape := ⟨2, ![1, 64]⟩
abbrev S1x128 : Shape := ⟨2, ![1, 128]⟩
abbrev S_ : Shape := ⟨0, ![]⟩
abbrev S64x1024 : Shape := ⟨2, ![64, 1024]⟩
abbrev S8x8x8x2x64 : Shape := ⟨5, ![8, 8, 8, 2, 64]⟩
abbrev S8x8x1024 : Shape := ⟨3, ![8, 8, 1024]⟩
abbrev S1x1280x128x1024 : Shape := ⟨4, ![1, 1280, 128, 1024]⟩
abbrev S1280x128x1024 : Shape := ⟨3, ![1280, 128, 1024]⟩
abbrev S8x128x1 : Shape := ⟨3, ![8, 128, 1]⟩
abbrev S8x128x128x1024 : Shape := ⟨4, ![8, 128, 128, 1024]⟩
abbrev S8x16384x1024 : Shape := ⟨3, ![8, 16384, 1024]⟩
abbrev S8x16392x1024 : Shape := ⟨3, ![8, 16392, 1024]⟩
abbrev S16392 : Shape := ⟨1, ![16392]⟩
abbrev S8 : Shape := ⟨1, ![8]⟩
abbrev S8x16392x8x2x64 : Shape := ⟨5, ![8, 16392, 8, 2, 64]⟩
abbrev S8x16392x8x128 : Shape := ⟨4, ![8, 16392, 8, 128]⟩
abbrev S8x8x2x8x16392 : Shape := ⟨5, ![8, 8, 2, 8, 16392]⟩
abbrev S8x1 : Shape := ⟨2, ![8, 1]⟩
abbrev S1x16392 : Shape := ⟨2, ![1, 16392]⟩
abbrev S8x16392 : Shape := ⟨2, ![8, 16392]⟩
abbrev S8x1x1x1 : Shape := ⟨4, ![8, 1, 1, 1]⟩
abbrev S1x1x8x16392 : Shape := ⟨4, ![1, 1, 8, 16392]⟩
abbrev S8x1x8x16392 : Shape := ⟨4, ![8, 1, 8, 16392]⟩
abbrev S1x8x1x8x16392 : Shape := ⟨5, ![1, 8, 1, 8, 16392]⟩
abbrev S8x8x2x8 : Shape := ⟨4, ![8, 8, 2, 8]⟩
abbrev S8x8x2x8x1 : Shape := ⟨5, ![8, 8, 2, 8, 1]⟩
abbrev S8x8x1x8x16392 : Shape := ⟨5, ![8, 8, 1, 8, 16392]⟩
abbrev S8x8x8x16392 : Shape := ⟨4, ![8, 8, 8, 16392]⟩
abbrev S8x8x128x8 : Shape := ⟨4, ![8, 8, 128, 8]⟩
abbrev S8x8x8x128 : Shape := ⟨4, ![8, 8, 8, 128]⟩
abbrev S128 : Shape := ⟨1, ![128]⟩
abbrev S8x8x8 : Shape := ⟨3, ![8, 8, 8]⟩
abbrev S8x8x8x1 : Shape := ⟨4, ![8, 8, 8, 1]⟩
abbrev S1x1x1x128 : Shape := ⟨4, ![1, 1, 1, 128]⟩

abbrev nBuf : Space → Nat
  | .hbm => 142
  | .vmem => 0
  | .smem => 0
  | _ => 0

abbrev hbmTy0_0 (i : Nat) : BufTy := match i % 128 with
  | 0 => ⟨S8x128, .i32⟩
  | 1 => ⟨S8256x5632, .f32⟩
  | 2 => ⟨S4x1280x128x1024, .f32⟩
  | 3 => ⟨S4x1280x128x1024, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S1x64, .f32⟩
  | 10 => ⟨S_, .f32⟩
  | 11 => ⟨S_, .f32⟩
  | 12 => ⟨S_, .f32⟩
  | 13 => ⟨S1x64, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S64x1024, .f32⟩
  | 21 => ⟨S8x8x8x2x64, .f32⟩
  | 22 => ⟨S64x1024, .f32⟩
  | 23 => ⟨S8x8x1024, .f32⟩
  | 24 => ⟨S64x1024, .f32⟩
  | 25 => ⟨S8x8x1024, .f32⟩
  | 26 => ⟨S1x1280x128x1024, .f32⟩
  | 27 => ⟨S1280x128x1024, .f32⟩
  | 28 => ⟨S_, .i32⟩
  | 29 => ⟨S8x128, .i32⟩
  | 30 => ⟨S8x128, .i1⟩
  | 31 => ⟨S_, .i32⟩
  | 32 => ⟨S8x128, .i32⟩
  | 33 => ⟨S8x128, .i32⟩
  | 34 => ⟨S8x128, .i32⟩
  | 35 => ⟨S8x128x1, .i32⟩
  | 36 => ⟨S8x128x128x1024, .f32⟩
  | 37 => ⟨S8x16384x1024, .f32⟩
  | 38 => ⟨S8x16392x1024, .f32⟩
  | 39 => ⟨S1x1280x128x1024, .f32⟩
  | 40 => ⟨S1280x128x1024, .f32⟩
  | 41 => ⟨S_, .i32⟩
  | 42 => ⟨S8x128, .i32⟩
  | 43 => ⟨S8x128, .i1⟩
  | 44 => ⟨S_, .i32⟩
  | 45 => ⟨S8x128, .i32⟩
  | 46 => ⟨S8x128, .i32⟩
  | 47 => ⟨S8x128, .i32⟩
  | 48 => ⟨S8x128x1, .i32⟩
  | 49 => ⟨S8x128x128x1024, .f32⟩
  | 50 => ⟨S8x16384x1024, .f32⟩
  | 51 => ⟨S8x16392x1024, .f32⟩
  | 52 => ⟨S16392, .i32⟩
  | 53 => ⟨S8, .i32⟩
  | 54 => ⟨S_, .i32⟩
  | 55 => ⟨S8, .i32⟩
  | 56 => ⟨S8, .i32⟩
  | 57 => ⟨S8x16392x8x2x64, .f32⟩
  | 58 => ⟨S8x16392x8x128, .f32⟩
  | 59 => ⟨S8x8x2x8x16392, .f32⟩
  | 60 => ⟨S_, .f32⟩
  | 61 => ⟨S8x8x2x8x16392, .f32⟩
  | 62 => ⟨S8x8x2x8x16392, .f32⟩
  | 63 => ⟨S8x1, .i32⟩
  | 64 => ⟨S1x16392, .i32⟩
  | 65 => ⟨S8x16392, .i32⟩
  | 66 => ⟨S8x16392, .i32⟩
  | 67 => ⟨S8x16392, .i32⟩
  | 68 => ⟨S8x16392, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8x1x1x1, .f32⟩
  | 83 => ⟨S1x1x8x16392, .f32⟩
  | 84 => ⟨S8x1x8x16392, .f32⟩
  | 85 => ⟨S8x1x8x16392, .f32⟩
  | 86 => ⟨S8x1x8x16392, .f32⟩
  | 87 => ⟨S1x8x1x8x16392, .f32⟩
  | 88 => ⟨S8x8x2x8x16392, .f32⟩
  | 89 => ⟨S8x8x2x8x16392, .f32⟩
  | 90 => ⟨S_, .f32⟩
  | 91 => ⟨S8x16392, .f32⟩
  | 92 => ⟨S8x16392, .i1⟩
  | 93 => ⟨S_, .f32⟩
  | 94 => ⟨S_, .f32⟩
  | 95 => ⟨S8x8x2x8x16392, .i1⟩
  | 96 => ⟨S8x8x2x8x16392, .f32⟩
  | 97 => ⟨S8x8x2x8x16392, .f32⟩
  | 98 => ⟨S_, .f32⟩
  | 99 => ⟨S8x8x2x8, .f32⟩
  | 100 => ⟨S_, .f32⟩
  | 101 => ⟨S8x8x2x8, .f32⟩
  | 102 => ⟨S8x8x2x8, .f32⟩
  | 103 => ⟨S8x8x2x8x1, .f32⟩
  | 104 => ⟨S8x8x2x8x16392, .f32⟩
  | 105 => ⟨S8x8x2x8x16392, .f32⟩
  | 106 => ⟨S8x8x2x8x16392, .f32⟩
  | 107 => ⟨S_, .f32⟩
  | 108 => ⟨S8x8x2x8, .f32⟩
  | 109 => ⟨S8x8x2x8x1, .f32⟩
  | 110 => ⟨S8x8x2x8x16392, .f32⟩
  | 111 => ⟨S8x8x2x8x16392, .f32⟩
  | 112 => ⟨S8x8x1x8x16392, .f32⟩
  | 113 => ⟨S8x8x8x16392, .f32⟩
  | 114 => ⟨S8x8x1x8x16392, .f32⟩
  | 115 => ⟨S8x8x8x16392, .f32⟩
  | 116 => ⟨S8x8x8x16392, .f32⟩
  | 117 => ⟨S8x8x8x16392, .f32⟩
  | 118 => ⟨S8x8x8x16392, .f32⟩
  | 119 => ⟨S8x8x128x8, .f32⟩
  | 120 => ⟨S8x8x8x128, .f32⟩
  | 121 => ⟨S128, .f32⟩
  | 122 => ⟨S8x8x8x128, .f32⟩
  | 123 => ⟨S_, .f32⟩
  | 124 => ⟨S8x8x8, .f32⟩
  | 125 => ⟨S8x8x8x1, .f32⟩
  | 126 => ⟨S_, .f32⟩
  | 127 => ⟨S8x8x8x1, .f32⟩
  | _ => ⟨S8x128, .i32⟩

abbrev hbmTy0_1 (i : Nat) : BufTy := match i % 128 with
  | 0 => ⟨S8x8x8x1, .f32⟩
  | 1 => ⟨S_, .f32⟩
  | 2 => ⟨S8x8x8x1, .f32⟩
  | 3 => ⟨S8x8x8x1, .f32⟩
  | 4 => ⟨S8x8x8x1, .f32⟩
  | 5 => ⟨S8x8x8x128, .f32⟩
  | 6 => ⟨S8x8x8x128, .f32⟩
  | 7 => ⟨S1x1x1x128, .f32⟩
  | 8 => ⟨S8x8x8x128, .f32⟩
  | 9 => ⟨S8x8x8x128, .f32⟩
  | 10 => ⟨S_, .f32⟩
  | 11 => ⟨S8x8x8x128, .f32⟩
  | 12 => ⟨S8x8x8x128, .f32⟩
  | 13 => ⟨S64x1024, .f32⟩
  | _ => ⟨S8x128, .i32⟩

abbrev hbmTy (i : Nat) : BufTy := match i / 128 with
  | 0 => hbmTy0_0 i
  | 1 => hbmTy0_1 i
  | _ => ⟨S8x128, .i32⟩

abbrev bufTy : (tb : Table) → Fin (tcTables nBuf tb) → BufTy
  | .hbm, ⟨i, _⟩ => hbmTy i
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_19 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== Proof.AttSTable.lean ====
module

public import proofs.«01_k».proof.Defs
public import proofs.«01_k».proof.Proof.Gen.AttS.Frame.Runs
public import proofs.«01_k».proof.Proof.Gen.AttSIdeal.Frame.Runs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttSIdeal

open Cert.AttSIdeal Cert.AttSIdeal.Gen

/-- The side conditions of the first precondition's operations. -/
instance preFacts : Cert.Pre_pages_named.Facts := ⟨by decide⟩

/-- The side conditions of the second precondition's operations. -/
instance preFactsFinite : Cert.Pre_pages_named_finite.Facts := ⟨by decide, by decide, by decide, by decide⟩

/-- A word between 0 and 1279 as a signed number is below 1280 as a natural number. -/
theorem word_lt (w : BitVec 32) (h : IntOp.andi (IntOp.cmpi .sge w 0#32) (IntOp.cmpi .slt w 1280#32) = 1#1) : w.toNat < 1280 := by
  have h' : BitVec.ofBool ((0#32).sle w) &&& BitVec.ofBool (w.slt 1280#32) = 1#1 := h
  rw [BitVec.ofBool_and_ofBool] at h'
  have h2 : ((0#32).sle w && w.slt 1280#32) = true := by
    revert h'
    cases ((0#32).sle w && w.slt 1280#32) <;> decide
  simp only [Bool.and_eq_true, BitVec.sle, BitVec.slt, decide_eq_true_eq, BitVec.toInt_eq_toNat_cond] at h2
  have := w.isLt
  norm_num at h2
  omega

/-- The table's words are below 1280. -/
theorem words_of_pre (m : (ℓ : Loc nD τ sig) → Buf (Elt Ideal) ℓ) (h : Pre_AttSIdeal m) (a : Fin 8) (k : Fin 128) :
    (show BitVec 32 from m (((0 : Dev nD) : Thread nD τ).loc main_arg0) (ix2 a k)).toNat < 1280 := by
  have := congrFun (h 0) (ix2 a k)
  pointwise [Cert.Pre_pages_named.fn] at this
  exact word_lt _ this

/-- A grid coordinate, cast to an index, is itself. -/
theorem cast_val : ∀ k : Fin 128, BitVec.toNat (Scalar.indexCast (BitVec.ofNat 32 k.val)) = k.val := by decide +kernel

/-- The page windows sit at the page that the table names. -/
theorem place6 {F : FTy → Type} (pf : pre0.Contents (Elt F)) (i : grid0.Coords) :
    cc0_transform_6 k0_off1_inb numel1_S1x1 pf i = ![0, (pf 0 (ix2 (i 0) (i 1)) : BitVec 32).toNat, 0, 0] := by
  have h0 : (i 0).val < 8 := (i 0).isLt
  refine congrArg (fun x => ![0, BitVec.toNat (pf 0 x), 0, 0]) (funext fun a => Fin.ext ?_)
  match a with
  | ⟨0, _⟩ =>
    show BitVec.toNat (Scalar.indexCast (BitVec.ofNat 32 (i 0).val)) + 1 * 0 = (i 0).val
    exact cast_val ⟨(i 0).val, by omega⟩
  | ⟨1, _⟩ =>
    show BitVec.toNat (Scalar.indexCast (BitVec.ofNat 32 (i 1).val)) + 1 * 0 = (i 1).val
    exact cast_val (i 1)

/-- A table of words below 1280 keeps the page windows inside the caches. -/
theorem ok_of_words {F : FTy → Type} (pf : pre0.Contents (Elt F)) (h : ∀ (a : Fin 8) (k : Fin 128), (pf 0 (ix2 a k) : BitVec 32).toNat < 1280) :
    ok0 pf := by
  have key : ∀ i : grid0.Coords, ∀ a, (cc0_transform_6 k0_off1_inb numel1_S1x1 pf i a + 1) * S1x1x128x1024.size a ≤ S4x1280x128x1024.size a := by
    intro i a
    rw [place6]
    have := h (i 0) (i 1)
    fin_cases a
    · show (0 + 1) * 1 ≤ 4; omega
    · show ((pf 0 (ix2 (i 0) (i 1)) : BitVec 32).toNat + 1) * 1 ≤ 1280
      omega
    · show (0 + 1) * 128 ≤ 128; omega
    · show (0 + 1) * 1024 ≤ 1024; omega
  exact ⟨fun i => ⟨key i, .inl rfl⟩, fun i => ⟨key i, .inl rfl⟩⟩

/-- The table of the program over the extended reals names pages of the cache. -/
theorem ok_of_pre (m : (ℓ : Loc nD τ sig) → Buf (Elt Ideal) ℓ) (h : Pre_AttSIdeal m) : Ok m := ok_of_words _ (words_of_pre m h)

/-- So does the table of the program as compiled. -/
theorem bits_ok_of_pre (m : (ℓ : Loc Cert.AttS.nD Cert.AttS.τ Cert.AttS.sig) → Buf (Elt Bits) ℓ) (h : Pre_AttS m) : Cert.AttS.Gen.Ok m :=
  ok_of_words (F := Bits) (fun j => Cert.AttS.Gen.tbl m j) fun a k => by
    have := congrFun (h 0) (ix2 a k)
    pointwise [Cert.Pre_pages_named.fn] at this
    exact word_lt _ this

end Cert.AttSIdeal
end
-- ==== Proof.AttSMath.lean ====
module

public import Idealize.ShloMosaic.PureOps.Ideal
public import Idealize.ShloMosaic.PureOps.Ideal.Laws

@[expose] public section

noncomputable section

open Idealize.ShloMosaic

namespace Cert.AttSMath

/-- The weight of a score: its exponential as a real number, zero for a masked score. -/
def weight (s : EReal) : ℝ := (Ideal.exp s).toReal

/-- A masked score has weight zero. -/
theorem weight_bot : weight ⊥ = 0 := by simp [weight]

/-- The weight of a real score is its exponential. -/
theorem weight_coe (r : ℝ) : weight (r : EReal) = Real.exp r := by simp [weight]

/-- Weights are not negative. -/
theorem weight_nonneg (s : EReal) (hs : s ≠ ⊤) : 0 ≤ weight s := by
  induction s using EReal.rec with
  | bot => rw [weight_bot]
  | coe r => rw [weight_coe]; exact (Real.exp_pos r).le
  | top => exact absurd rfl hs

/-- Moving a score by a real number multiplies its weight. -/
theorem exp_shift (s : EReal) (hs : s ≠ ⊤) (μ : ℝ) : Ideal.exp (s - (μ : EReal)) = ((weight s * Real.exp (-μ) : ℝ) : EReal) := by
  induction s using EReal.rec with
  | bot => rw [weight_bot, zero_mul, EReal.bot_sub, Ideal.exp_bot]; rfl
  | coe r => rw [weight_coe, ← EReal.coe_sub, Ideal.exp_coe, sub_eq_add_neg, Real.exp_add]
  | top => exact absurd rfl hs

/-- A running quantity `x` kept relative to the running maximum `m` stands for the real number `X`: nothing has been seen yet, or `x` is
    `X` scaled down by the exponential of `m`. -/
def Carried (m x : EReal) (X : ℝ) : Prop := (m = ⊥ ∧ x = 0 ∧ X = 0) ∨ ∃ μ : ℝ, m = (μ : EReal) ∧ x = ((X * Real.exp (-μ) : ℝ) : EReal)

/-- A carried sum, moved to another maximum. -/
theorem Carried.rescale {m x : EReal} {X : ℝ} (h : Carried m x X) (μ' : ℝ) :
    Ideal.exp (m - (μ' : EReal)) * x = ((X * Real.exp (-μ') : ℝ) : EReal) := by
  rcases h with ⟨-, rfl, rfl⟩ | ⟨μ, rfl, rfl⟩
  · rw [mul_zero, zero_mul]; rfl
  · rw [exp_shift _ (EReal.coe_ne_top _), weight_coe, ← EReal.coe_mul]
    congr 1
    have h : Real.exp μ * Real.exp (-μ) = 1 := by rw [← Real.exp_add, add_neg_cancel, Real.exp_zero]
    linear_combination X * Real.exp (-μ') * h

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One block more of a weighted sum: the old one rescaled to the new maximum plus the block's own. -/
theorem Carried.step {n : ℕ} {m x : EReal} {X : ℝ} (h : Carried m x X) (s : Fin n → EReal) (hs : ∀ j, s j ≠ ⊤) (v : Fin n → ℝ) (μ' : ℝ) :
    Carried (μ' : EReal) (Ideal.exp (m - (μ' : EReal)) * x + ∑ j, Ideal.exp (s j - (μ' : EReal)) * (v j : EReal))
      (X + ∑ j, weight (s j) * v j) := by
  refine .inr ⟨μ', rfl, ?_⟩
  rw [h.rescale μ', add_mul, EReal.coe_add, Finset.sum_mul, coe_sum]
  refine congrArg _ (Finset.sum_congr rfl fun j _ => ?_)
  rw [exp_shift _ (hs j), ← EReal.coe_mul]
  congr 1
  ring

/-- The step for a plain sum of weights. -/
theorem Carried.step_one {n : ℕ} {m x : EReal} {X : ℝ} (h : Carried m x X) (s : Fin n → EReal) (hs : ∀ j, s j ≠ ⊤) (μ' : ℝ) :
    Carried (μ' : EReal) (Ideal.exp (m - (μ' : EReal)) * x + ∑ j, Ideal.exp (s j - (μ' : EReal))) (X + ∑ j, weight (s j)) := by
  have := h.step s hs (fun _ => 1) μ'
  simpa using this

/-- The quotient of two running quantities does not depend on the maximum. -/
theorem Carried.div {m a l : EReal} {A L : ℝ} (ha : Carried m a A) (hl : Carried m l L) (hL : L ≠ 0) :
    Ideal.div a l = ((A / L : ℝ) : EReal) := by
  rcases hl with ⟨-, -, h⟩ | ⟨μ, rfl, rfl⟩
  · exact absurd h hL
  rcases ha with ⟨h, -, -⟩ | ⟨μ', h, rfl⟩
  · exact absurd h (EReal.coe_ne_bot _)
  obtain rfl : μ' = μ := (EReal.coe_eq_coe_iff.1 h).symm
  have he : Real.exp (-μ') ≠ 0 := (Real.exp_pos _).ne'
  rw [Ideal.div_coe (mul_ne_zero hL he), ← EReal.coe_mul]
  congr 1
  field_simp

/-- A maximum of a block of scores none of which is `⊤` is not `⊤`. -/
theorem fold_max_ne_top {n : ℕ} (s : Fin n → EReal) (hs : ∀ j, s j ≠ ⊤) : Finset.univ.fold max ⊥ s ≠ ⊤ := by
  rw [← lt_top_iff_ne_top, Finset.fold_max_lt]
  exact ⟨bot_lt_top, fun j _ => lt_top_iff_ne_top.2 (hs j)⟩

/-- The new maximum is a real number as soon as the old one is, or one score of the block is. -/
theorem max_real {n : ℕ} (m : EReal) (hm : m ≠ ⊤) (s : Fin n → EReal) (hs : ∀ j, s j ≠ ⊤) (h : m ≠ ⊥ ∨ ∃ j, s j ≠ ⊥) :
    ∃ μ : ℝ, max m (Finset.univ.fold max ⊥ s) = (μ : EReal) := by
  have ht : max m (Finset.univ.fold max ⊥ s) ≠ ⊤ := by
    rcases max_choice m (Finset.univ.fold max ⊥ s) with e | e <;> rw [e]
    · exact hm
    · exact fold_max_ne_top s hs
  have hb : max m (Finset.univ.fold max ⊥ s) ≠ ⊥ := by
    rw [← bot_lt_iff_ne_bot, lt_max_iff, Finset.lt_fold_max]
    rcases h with h | ⟨j, h⟩
    · exact .inl (bot_lt_iff_ne_bot.2 h)
    · exact .inr (.inr ⟨j, Finset.mem_univ _, bot_lt_iff_ne_bot.2 h⟩)
  exact ⟨_, (EReal.coe_toReal ht hb).symm⟩

/-- The constants of the call, as real numbers. -/
theorem eighth_eq : Ideal.ofBits .f32 0x3E000000#32 = ((0.125 : ℝ) : EReal) := by
  simp [Ideal.ofBits, Ideal.ieee, -EReal.coe_mul]; norm_num

/-- The constant 2. -/
theorem two_eq : Ideal.ofBits .f32 0x40000000#32 = ((2 : ℝ) : EReal) := by
  simp [Ideal.ofBits, Ideal.ieee, -EReal.coe_mul]; norm_num

/-- The constant −8. -/
theorem neg_eight_eq : Ideal.ofBits .f32 0xC1000000#32 = ((-8 : ℝ) : EReal) := by
  simp [Ideal.ofBits, Ideal.ieee, -EReal.coe_mul, -EReal.coe_neg]; norm_num

/-- The constant 8. -/
theorem eight_eq : Ideal.ofBits .f32 0x41000000#32 = ((8 : ℝ) : EReal) := by
  simp [Ideal.ofBits, Ideal.ieee, -EReal.coe_mul]; norm_num

/-- The constant −∞. -/
theorem bot_eq : Ideal.ofBits .f32 0xFF800000#32 = ⊥ := by
  simp [Ideal.ofBits, Ideal.ieee]

/-- The constant 0.2 of the mixing weight, whatever its rounding, is a real number. -/
theorem fifth_real : ∃ r : ℝ, Ideal.ofBits .f32 0x3E4CCCCD#32 = r :=
  ⟨_, by simp [Ideal.ofBits, Ideal.ieee, -EReal.coe_mul]; rfl⟩

/-- A small word, as an integer. -/
theorem word_int (a : ℕ) (ha : a < 2 ^ 30) : (BitVec.ofNat 32 a).toInt = (a : ℤ) := by
  rw [BitVec.toInt_eq_toNat_cond, BitVec.toNat_ofNat, Nat.mod_eq_of_lt (by omega), if_pos (by omega)]

/-- A difference of two small words. -/
theorem word_sub (a b : ℕ) (ha : a < 2 ^ 30) (hb : b < 2 ^ 30) : (BitVec.ofNat 32 a - BitVec.ofNat 32 b).toInt = (a : ℤ) - b := by
  rw [BitVec.toInt_sub, word_int a ha, word_int b hb]
  simp only [Int.bmod_def]
  omega

/-- A page number below 1280 is not negative, so it is its own place in the cache. -/
theorem word_page (w : BitVec 32) (h : w.toNat < 1280) :
    (Scalar.select (IntOp.cmpi .slt w 0#32) (IntOp.addi w 1280#32) w).toInt.toNat = w.toNat := by
  have hi : w.toInt = w.toNat := by rw [BitVec.toInt_eq_toNat_cond]; omega
  have hs : IntOp.cmpi .slt w 0#32 = 0#1 := by
    show BitVec.ofBool (w.slt 0#32) = 0#1
    rw [show w.slt 0#32 = false from decide_eq_false (by rw [hi]; simp)]
    rfl
  rw [hs]
  show w.toInt.toNat = _
  rw [hi]
  rfl

/-- The real numbers the call computes with: the projection (row, column), the pages of the two caches (page, row, column) and the words
    of the page table (sequence, page number). -/
structure Data where
  proj : ℕ → ℕ → ℝ
  pageK : ℕ → ℕ → ℕ → ℝ
  pageV : ℕ → ℕ → ℕ → ℝ
  table : ℕ → ℕ → ℕ

variable (D : Data)

/-- Column `col` of key `n` of sequence `b`: the first 16384 keys lie in the pages, the eight new ones in the projection. -/
def Data.key (b n col : ℕ) : ℝ := if n < 16384 then D.pageK (D.table b (n / 128)) (n % 128) col else
  if n < 16392 then D.proj (8192 + 8 * b + (n - 16384)) (1536 + col) else 0

/-- Column `col` of value `n` of sequence `b`. -/
def Data.val (b n col : ℕ) : ℝ := if n < 16384 then D.pageV (D.table b (n / 128)) (n % 128) col else
  if n < 16392 then D.proj (8192 + 8 * b + (n - 16384)) (2560 + col) else 0

/-- The score of key `n` for row `R = 16 · head + 8 · half + query` of sequence `b`: scaled product less the slope times the distance. -/
def Data.score (b R n : ℕ) : ℝ :=
  (∑ d : Fin 64, D.proj (8192 + 8 * b + R % 8) (512 + (64 * (R / 8) + d)) * D.key b n (64 * (R / 8) + d)) * 0.125
    - (2 : ℝ) ^ (-((R / 16 + 1 : ℕ) : ℝ)) * ((16384 + R % 8 : ℕ) - n)

/-- The score with the keys after the query masked out. -/
def Data.masked (b R n : ℕ) : EReal := if n ≤ 16384 + R % 8 then (D.score b R n : EReal) else ⊥

/-- A masked score is never +∞. -/
theorem Data.masked_ne_top (b R n : ℕ) : D.masked b R n ≠ ⊤ := by
  rw [Data.masked]; split
  · exact EReal.coe_ne_top _
  · exact bot_ne_top

/-- The sum of the weights of the first `N` keys. -/
def Data.total (b R N : ℕ) : ℝ := ∑ n ∈ Finset.range N, weight (D.masked b R n)

/-- The weighted sum of column `col` of the first `N` values. -/
def Data.mix (b R N col : ℕ) : ℝ := ∑ n ∈ Finset.range N, weight (D.masked b R n) * D.val b n col

/-- The sum of weights over more keys. -/
theorem Data.total_add (b R N k : ℕ) : D.total b R (N + k) = D.total b R N + ∑ j : Fin k, weight (D.masked b R (N + j)) := by
  rw [Data.total, Finset.sum_range_add, ← Finset.sum_range (fun j => weight (D.masked b R (N + j)))]; rfl

/-- The weighted sum of values over more keys. -/
theorem Data.mix_add (b R N k col : ℕ) :
    D.mix b R (N + k) col = D.mix b R N col + ∑ j : Fin k, weight (D.masked b R (N + j)) * D.val b (N + j) col := by
  rw [Data.mix, Finset.sum_range_add, ← Finset.sum_range (fun j => weight (D.masked b R (N + j)) * D.val b (N + j) col)]; rfl

/-- Keys past the new ones have no weight. -/
theorem Data.weight_late (b R n : ℕ) (h : 16392 ≤ n) : weight (D.masked b R n) = 0 := by
  rw [Data.masked, if_neg (by omega), weight_bot]

/-- Padding the new keys to 128 adds no weight. -/
theorem Data.total_late (b R : ℕ) : D.total b R (16384 + 128) = D.total b R 16392 := by
  rw [show 16384 + 128 = 16392 + 120 from rfl, D.total_add]
  refine (congrArg _ (Finset.sum_eq_zero fun j _ => D.weight_late b R _ (Nat.le_add_right _ _))).trans (add_zero _)

/-- Padding the new values to 128 adds nothing to the weighted sum. -/
theorem Data.mix_late (b R col : ℕ) : D.mix b R (16384 + 128) col = D.mix b R 16392 col := by
  rw [show 16384 + 128 = 16392 + 120 from rfl, D.mix_add]
  refine (congrArg _ (Finset.sum_eq_zero fun j _ => ?_)).trans (add_zero _)
  rw [D.weight_late b R _ (Nat.le_add_right _ _), zero_mul]

/-- The weights do not sum to zero: the first key is never masked. -/
theorem Data.total_ne_zero (b R : ℕ) : D.total b R 16392 ≠ 0 := by
  refine (lt_of_lt_of_le ?_ (Finset.single_le_sum (f := fun n => weight (D.masked b R n))
    (fun n _ => weight_nonneg _ (D.masked_ne_top b R n)) (Finset.mem_range.2 (show 0 < 16392 by norm_num)))).ne'
  show 0 < weight (D.masked b R 0)
  rw [Data.masked, if_pos (Nat.zero_le _), weight_coe]
  exact Real.exp_pos _

/-- The attended value of a row: the weighted mean of the values. -/
def Data.mean (b R col : ℕ) : ℝ := D.mix b R 16392 col / D.total b R 16392

/-- Column `e` of head `h` for query `i` of sequence `b`: the mean of the first half less `lam` times that of the second. -/
def Data.head (lam : ℝ) (b h i e : ℕ) : ℝ := D.mean b (16 * h + i) (128 * h + e) - lam * D.mean b (16 * h + 8 + i) (128 * h + e)

/-- The same by mixing the two rows' normalised weights first. -/
theorem Data.head_eq_sum (lam : ℝ) (b h i e : ℕ) : D.head lam b h i e = ∑ n ∈ Finset.range 16392,
    (weight (D.masked b (16 * h + i) n) / D.total b (16 * h + i) 16392
      - lam * (weight (D.masked b (16 * h + 8 + i) n) / D.total b (16 * h + 8 + i) 16392)) * D.val b n (128 * h + e) := by
  rw [Data.head, Data.mean, Data.mean, Data.mix, Data.mix, Finset.sum_div, Finset.sum_div, Finset.mul_sum, ← Finset.sum_sub_distrib]
  refine Finset.sum_congr rfl fun n _ => ?_
  ring

/-- The norm of a head, the scale of the norm and the constant factor. -/
def normed (o : Fin 128 → EReal) (g : Fin 128 → EReal) (e : Fin 128) : EReal :=
  o e * Ideal.rsqrt (Ideal.div (∑ k, o k * o k) (Ideal.ofBits .f32 0x43000000#32) + Ideal.ofBits .f32 0x358637BD#32) * g e
    * Ideal.ofBits .f32 0x3F4CCCCD#32

/-- Of 1024 columns only the 64 of block `r` are kept. -/
theorem sum_block (r : ℕ) (hr : r < 16) (f g : ℕ → ℝ) :
    ∑ k : Fin 1024, (if r = k / 64 then f k else 0) * g k = ∑ d : Fin 64, f (64 * r + d) * g (64 * r + d) := by
  rw [Finset.sum_range (fun k => (if r = k / 64 then f k else 0) * g k) |>.symm, ← Finset.sum_range (fun d => f (64 * r + d) * g (64 * r + d))]
  symm
  rw [← Finset.sum_subset (s₁ := (Finset.range 64).image (64 * r + ·)) (f := fun k => (if r = k / 64 then f k else 0) * g k)]
  · rw [Finset.sum_image fun a _ c _ h => Nat.add_left_cancel h]
    refine Finset.sum_congr rfl fun d hd => ?_
    rw [if_pos (by have := Finset.mem_range.1 hd; omega)]
  · intro k hk
    obtain ⟨d, hd, rfl⟩ := Finset.mem_image.1 hk
    have := Finset.mem_range.1 hd
    exact Finset.mem_range.2 (by omega)
  · intro k hk h
    rw [if_neg, zero_mul]
    rintro rfl
    exact h (Finset.mem_image.2 ⟨k % 64, Finset.mem_range.2 (Nat.mod_lt _ (by norm_num)), Nat.div_add_mod k 64⟩)

end Cert.AttSMath

end
-- ==== Proof.AttSKernel.lean ====
module

public import proofs.«01_k».proof.Defs
public import proofs.«01_k».proof.Proof.AttSMath
public import proofs.«01_k».proof.Proof.Gen.AttSIdeal.Skeleton
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AttSIdeal

open Cert.AttSIdeal Cert.AttSIdeal.Gen Cert.AttSMath

/-! ### One block of the online softmax, at an index -/

section
variable (s : FVec Ideal S128x128 .f32) (v : FVec Ideal S128x1024 .f32) (M L : Vec Ideal S1x128x128 .f32) (A : Vec Ideal S1x128x1024 .f32)

/-- The new maximum of a row. -/
theorem max_at (R : Fin 128) : k0_pay42 s M (ix2 R (0 : Fin 1)) =
    max (M (ix3 (0 : Fin 1) R (0 : Fin 128))) (Finset.univ.fold max ⊥ fun j => s (ix2 R j)) := by
  pointwise [k0_pay42, k0_pay41]
  rw [bot_eq]

/-- The stored maximum, the same on every lane. -/
theorem m_at (R k : Fin 128) : k0_pay46 s M (ix3 (0 : Fin 1) R k) = k0_pay42 s M (ix2 R (0 : Fin 1)) := by
  pointwise [k0_pay46]

/-- The stored sum of weights. -/
theorem l_at (R k : Fin 128) : k0_pay1 (k0_pay47 s M L) (ix3 (0 : Fin 1) R k) =
    Ideal.exp (M (ix3 (0 : Fin 1) R (0 : Fin 128)) - k0_pay42 s M (ix2 R (0 : Fin 1))) * L (ix3 (0 : Fin 1) R (0 : Fin 128))
      + ∑ j, Ideal.exp (s (ix2 R j) - k0_pay42 s M (ix2 R (0 : Fin 1))) := by
  pointwise [k0_pay1, k0_pay47, k0_pay43, k0_pay44, k0_pay41]

/-- The stored weighted sum of values. -/
theorem a_at (R : Fin 128) (e : Fin 1024) : k0_pay45 s v M A (ix3 (0 : Fin 1) R e) =
    Ideal.exp (M (ix3 (0 : Fin 1) R (0 : Fin 128)) - k0_pay42 s M (ix2 R (0 : Fin 1))) * A (ix3 (0 : Fin 1) R e)
      + ∑ j, Ideal.exp (s (ix2 R j) - k0_pay42 s M (ix2 R (0 : Fin 1))) * v (ix2 j e) := by
  pointwise [k0_pay45, k0_pay43, k0_pay44, k0_pay41]

end

/-! ### The words of the scores -/

/-- The low three bits of a row number are the query. -/
theorem word_query : ∀ R : Fin 128, IntOp.andi (BitVec.ofNat 32 R.val) 7#32 = BitVec.ofNat 32 (R.val % 8) := by decide +kernel

/-- The bits above the fourth, plus one, are the head counted from one. -/
theorem word_head : ∀ R : Fin 128, IntOp.addi (IntOp.shrsi .vector (BitVec.ofNat 32 R.val) 4#32) 1#32 = BitVec.ofNat 32 (R.val / 16 + 1) := by
  decide +kernel

/-- The bits above the third are the head half. -/
theorem word_row : ∀ R : Fin 128, IntOp.shrsi .vector (BitVec.ofNat 32 R.val) 3#32 = BitVec.ofNat 32 (R.val / 8) := by decide +kernel

/-- The bits above the sixth of a column number are the head half the column belongs to. -/
theorem word_col : ∀ k : Fin 1024, IntOp.shrsi .vector (BitVec.ofNat 32 k.val) 6#32 = BitVec.ofNat 32 (k.val / 64) := by decide +kernel

/-- Two small words are equal when the numbers are. -/
theorem word_eq (a b : ℕ) (ha : a < 128) (hb : b < 128) :
    IntOp.cmpi .eq (BitVec.ofNat 32 a) (BitVec.ofNat 32 b) = if a = b then 1#1 else 0#1 := by
  by_cases h : a = b
  · rw [if_pos h, h, IntOp.cmpi_eq_self]
  · rw [if_neg h]
    have : BitVec.ofNat 32 a ≠ BitVec.ofNat 32 b := fun e => h (by
      have := congrArg BitVec.toNat e
      rwa [BitVec.toNat_ofNat, BitVec.toNat_ofNat, Nat.mod_eq_of_lt (by omega), Nat.mod_eq_of_lt (by omega)] at this)
    show BitVec.ofBool (BitVec.ofNat 32 a == BitVec.ofNat 32 b) = 0#1
    rw [beq_eq_false_iff_ne.2 this]
    rfl

/-- Small words compare as the numbers do. -/
theorem word_le (a b : ℕ) (ha : a < 128) (hb : b < 128) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle, word_int a (by omega), word_int b (by omega)]
    exact decide_eq_decide.2 Nat.cast_le
  show BitVec.ofBool ((BitVec.ofNat 32 a).sle (BitVec.ofNat 32 b)) = _
  rw [e]
  by_cases h : a ≤ b <;> simp [h]

/-- The slope of a row. -/
theorem slope_at (R : Fin 128) : FloatOps.exp2 (F := Ideal) (φ := .f32) (0 - FloatOps.sitofp FTy.f32 (IntOp.addi (IntOp.shrsi ArithUnit.vector (BitVec.ofNat 32 ↑R) 4#32) 1#32))
    = (((2 : ℝ) ^ (-((R.val / 16 + 1 : ℕ) : ℝ)) : ℝ) : EReal) := by
  rw [word_head]
  show Ideal.exp2 ((0 : EReal) - (((BitVec.ofNat 32 (R.val / 16 + 1)).toInt : ℝ) : EReal)) = _
  rw [word_int _ (by omega), ← EReal.coe_zero, ← EReal.coe_sub, Int.cast_natCast, zero_sub]
  rfl

/-! ### The block-diagonal queries and the scores -/

variable (D : Data)

/-- The queries laid out block-diagonally: row `R` keeps the 64 columns of its head half. -/
def diag (b R col : ℕ) : ℝ := if R / 8 = col / 64 then D.proj (8192 + 8 * b + R % 8) (512 + col) * 0.125 else 0

/-- The product of a row of the block-diagonal queries with a key is the scaled product over the head half. -/
theorem diag_sum (b n : ℕ) (R : Fin 128) :
    ∑ k : Fin 1024, ((diag D b R k : ℝ) : EReal) * ((D.key b n k : ℝ) : EReal) =
      (((∑ d : Fin 64, D.proj (8192 + 8 * b + R % 8) (512 + (64 * (R / 8) + d)) * D.key b n (64 * (R / 8) + d)) * 0.125 : ℝ) : EReal) := by
  simp only [← EReal.coe_mul, ← coe_sum]
  refine congrArg _ ((sum_block (R.val / 8) (by omega) (fun k => D.proj (8192 + 8 * b + R % 8) (512 + k) * 0.125) (D.key b n)).trans ?_)
  rw [Finset.sum_mul]
  exact Finset.sum_congr rfl fun d _ => by ring

/-- Sixteen copies of eight rows. -/
theorem copies_at (y : S8x1024.Idx → EReal) (R : Fin 128) (k : Fin 1024) :
    concatenate S128x1024 0 (List.replicate 16 (⟨S8x1024, y⟩ : (s : Shape) × (s.Idx → EReal)))
      concatenates_S8x1024_S8x1024_S8x1024_S8x1024_S8x1024_S8x1024_S8x1024_S8x1024_S8x1024_S8x1024_S8x1024_S8x1024_S8x1024_S8x1024_S8x1024_S8x1024_S128x1024_d0
      (ix2 R k) = y (ix2 (⟨R.val % 8, Nat.mod_lt _ (by norm_num)⟩ : Fin 8) k) := by
  refine concatenate_replicate_apply (t := S128x1024) (s₁ := S8x1024) (0 : Fin 2) 16 y _ rfl (ix2 R k)
    (ix2 (⟨R.val % 8, Nat.mod_lt _ (by norm_num)⟩ : Fin 8) k) rfl fun a ha => ?_
  match a with
  | ⟨0, _⟩ => exact absurd rfl ha
  | ⟨1, _⟩ => rfl

/-- The mask of the block-diagonal layout, over any rows. -/
theorem kept_at (z : FVec Ideal S128x1024 .f32) (R : Fin 128) (k : Fin 1024) :
    shapeCast S128x1024 (truncf .bf16 (select (cmpi .eq
      (broadcastTo S128x1024 (shrsi (iota .tc S128x1 32 [0] iota_S128x1_d0_w32) (broadcast S128x1 3#32)) broadcasts_S128x1_S128x1024)
      (broadcastTo S128x1024 (shrsi (iota .tc S1x1024 32 [1] iota_S1x1024_d1_w32) (broadcast S1x1024 6#32)) broadcasts_S1x1024_S128x1024))
      z (broadcast S128x1024 (Scalar.ofBits (F := Ideal) .f32 0x00000000#32))) bitsLt_bf16_f32) shapeCasts_S128x1024_S128x1024 (ix2 R k) =
      if R.val / 8 = k.val / 64 then z (ix2 R k) else 0 := by
  pointwise
  rw [word_row, word_col, word_eq _ _ (by omega) (by omega)]
  split_ifs <;> rfl

/-- The two halves of the query columns side by side, scaled. -/
theorem scaled_at (x y : Vec Ideal S8x512 .f32) (i : Fin 8) (k : Fin 1024) :
    mulf (F := Ideal) (φ := .f32) (concatenate S8x1024 1 [⟨S8x512, x⟩, ⟨S8x512, y⟩] concatenates_S8x512_S8x512_S8x1024_d1)
      (broadcast S8x1024 (Scalar.ofBits (F := Ideal) .f32 0x3E000000#32)) (ix2 i k) =
      (if h : k.val < 512 then x (ix2 i ⟨k.val, h⟩) else y (ix2 i ⟨k.val - 512, by omega⟩)) * ((0.125 : ℝ) : EReal) := by
  pointwise
  rw [eighth_eq]

/-- What the first page's point stores as queries. -/
theorem diag_at (b : ℕ) (x y : Vec Ideal S8x512 .f32) (hx : ∀ i k, x (ix2 i k) = ((D.proj (8192 + 8 * b + i) (512 + k) : ℝ) : EReal))
    (hy : ∀ i k, y (ix2 i k) = ((D.proj (8192 + 8 * b + i) (1024 + k) : ℝ) : EReal)) (R : Fin 128) (k : Fin 1024) :
    k0_pay35 x y (ix2 R k) = ((diag D b R k : ℝ) : EReal) := by
  refine (kept_at _ R k).trans ?_
  rw [diag]
  split_ifs with h
  · refine (copies_at _ R k).trans ((scaled_at x y _ k).trans ?_)
    rw [EReal.coe_mul]
    congr 1
    by_cases hk : k.val < 512
    · rw [dif_pos hk, hx]
    · rw [dif_neg hk, hy]
      exact congrArg (fun r : ℕ => ((D.proj (8192 + 8 * b + R.val % 8) r : ℝ) : EReal)) (by show 1024 + (k.val - 512) = _; omega)
  · rfl

/-- The scores of a page are the masked scores: no key of a page is masked. -/
theorem page_at (b p : ℕ) (hp : p < 128) (i : grid0.Coords) (hi : (i 1).val = p) (q : Vec Ideal S128x1024 .bf16)
    (hq : ∀ R k, q (ix2 R k) = ((diag D b R k : ℝ) : EReal)) (x : Vec Ideal S1x1x128x1024 .f32)
    (hx : ∀ j k, x (ix4 (0 : Fin 1) (0 : Fin 1) j k) = ((D.key b (128 * p + j) k : ℝ) : EReal)) (R j : Fin 128) :
    k0_pay39 i q x (ix2 R j) = D.masked b R (128 * p + j) := by
  pointwise [k0_pay39, k0_pay33, k0_pay34]
  have e : FloatOps.sitofp (F := Ideal) FTy.f32 (IntOp.subi (IntOp.addi (16384#32) (IntOp.andi (BitVec.ofNat 32 ↑R) 7#32))
      (IntOp.addi (Scalar.muli (BitVec.ofNat 32 ↑(i 1)) 128#32) (BitVec.ofNat 32 ↑j)))
      = (((16384 + R.val % 8 : ℕ) - (128 * p + j.val : ℕ) : ℝ) : EReal) := by
    rw [word_query, hi]
    show ((((BitVec.ofNat 32 16384 + BitVec.ofNat 32 (R.val % 8) - (BitVec.ofNat 32 p * BitVec.ofNat 32 128 + BitVec.ofNat 32 j.val)).toInt : ℤ) : ℝ) : EReal) = _
    rw [← BitVec.ofNat_add, ← BitVec.ofNat_mul, ← BitVec.ofNat_add, word_sub _ _ (by omega) (by omega), mul_comm p 128]
    push_cast
    rfl
  rw [slope_at, e]
  simp only [hq, hx, diag_sum]
  rw [← EReal.coe_mul, ← EReal.coe_sub, Data.masked, if_pos (by omega)]
  rfl

/-- The scores of the new keys, padded to a block: those after the query and the padding are masked. -/
theorem new_at (b : ℕ) (q : Vec Ideal S128x1024 .bf16) (hq : ∀ R k, q (ix2 R k) = ((diag D b R k : ℝ) : EReal))
    (x y : Vec Ideal S8x512 .f32) (hx : ∀ i k, x (ix2 i k) = ((D.proj (8192 + 8 * b + i) (1536 + k) : ℝ) : EReal))
    (hy : ∀ i k, y (ix2 i k) = ((D.proj (8192 + 8 * b + i) (1536 + (512 + k)) : ℝ) : EReal)) (R j : Fin 128) :
    k0_pay5 k0_pay33 k0_pay34 (iota Kind.tc S1x128 32 [1] iota_S1x128_d1_w32) x y q (ix2 R j) = D.masked b R (16384 + j) := by
  pointwise [k0_pay5, k0_pay33, k0_pay34, k0_pay3]
  have ex : ∀ k : Fin 512, (if h : j.val < 8 then x (ix2 ⟨j.val, h⟩ k) else 0) = ((D.key b (16384 + j) k : ℝ) : EReal) := fun k => by
    rw [Data.key, if_neg (by omega)]
    by_cases h : j.val < 8
    · rw [dif_pos h, if_pos (by omega), hx, Nat.add_sub_cancel_left]
    · rw [dif_neg h, if_neg (by omega)]; rfl
  have ey : ∀ k : Fin 512, (if h : j.val < 8 then y (ix2 ⟨j.val, h⟩ k) else 0) = ((D.key b (16384 + j) (512 + k) : ℝ) : EReal) := fun k => by
    rw [Data.key, if_neg (by omega)]
    by_cases h : j.val < 8
    · rw [dif_pos h, if_pos (by omega), hy, Nat.add_sub_cancel_left]
    · rw [dif_neg h, if_neg (by omega)]; rfl
  have e : FloatOps.sitofp (F := Ideal) FTy.f32 (IntOp.subi (IntOp.andi (BitVec.ofNat 32 ↑R) 7#32) (BitVec.ofNat 32 ↑j))
      = (((R.val % 8 : ℕ) - (j.val : ℕ) : ℝ) : EReal) := by
    rw [word_query]
    show ((((BitVec.ofNat 32 (R.val % 8) - BitVec.ofNat 32 j.val).toInt : ℤ) : ℝ) : EReal) = _
    rw [word_sub _ _ (by omega) (by omega)]
    push_cast
    rfl
  have es := (Fin.sum_univ_add (a := 512) (b := 512) fun k : Fin 1024 => ((diag D b R k : ℝ) : EReal) * ((D.key b (16384 + j) k : ℝ) : EReal)).symm.trans
    (diag_sum D b (16384 + j) R)
  rw [slope_at, e, word_query, word_le _ _ (by omega) (by omega)]
  simp only [hq, ex, ey]
  rw [Data.masked]
  by_cases h : j.val ≤ R.val % 8
  · rw [if_pos h, if_pos (by omega)]
    show _ - _ = _
    refine (congrArg (· - _) es).trans ?_
    rw [← EReal.coe_mul, ← EReal.coe_sub, Data.score]
    refine congrArg _ (congrArg _ ?_)
    push_cast
    ring
  · rw [if_neg h, if_neg (by omega)]
    rfl

/-- The new values, padded to a block. -/
theorem newv_at (b : ℕ) (x y : Vec Ideal S8x512 .f32) (hx : ∀ i k, x (ix2 i k) = ((D.proj (8192 + 8 * b + i) (2560 + k) : ℝ) : EReal))
    (hy : ∀ i k, y (ix2 i k) = ((D.proj (8192 + 8 * b + i) (2560 + (512 + k)) : ℝ) : EReal)) (j : Fin 128) (k : Fin 1024) :
    k0_pay4 x y (ix2 j k) = ((D.val b (16384 + j) k : ℝ) : EReal) := by
  pointwise [k0_pay4, k0_pay3]
  have e : D.val b (16384 + j) k = if j.val < 8 then D.proj (8192 + 8 * b + j) (2560 + k) else 0 := by
    rw [Data.val, if_neg (by omega), Nat.add_sub_cancel_left]
    by_cases h : j.val < 8
    · rw [if_pos h, if_pos (by omega)]
    · rw [if_neg h, if_neg (by omega)]
  rw [e]
  by_cases h : j.val < 8
  · refine (dif_pos h).trans (Eq.trans ?_ (congrArg (fun r : ℝ => (r : EReal)) (if_pos h).symm))
    by_cases hk : k.val < 512
    · exact (dif_pos hk).trans (hx _ _)
    · refine (dif_neg hk).trans ((hy _ _).trans ?_)
      exact congrArg (fun r : ℕ => ((D.proj (8192 + 8 * b + j.val) r : ℝ) : EReal)) (by show 2560 + (512 + (k.val - 512)) = _; omega)
  · exact (dif_neg h).trans (congrArg (fun r : ℝ => (r : EReal)) (if_neg h).symm)

/-! ### What the scratch holds after the first `N` keys of a sequence -/

/-- The scratch buffers after the first `N` keys of sequence `b`. -/
structure Holds (b N : ℕ) (q : Vec Ideal S128x1024 .bf16) (M L : Vec Ideal S1x128x128 .f32) (A : Vec Ideal S1x128x1024 .f32) : Prop where
  q_at : ∀ R k, q (ix2 R k) = ((diag D b R k : ℝ) : EReal)
  l_at : ∀ R : Fin 128, Carried (M (ix3 (0 : Fin 1) R (0 : Fin 128))) (L (ix3 (0 : Fin 1) R (0 : Fin 128))) (D.total b R N)
  a_at : ∀ (R : Fin 128) (e : Fin 1024), Carried (M (ix3 (0 : Fin 1) R (0 : Fin 128))) (A (ix3 (0 : Fin 1) R e)) (D.mix b R N e)

/-- Before the first key the maximum is `⊥` and the sums are zero. -/
theorem holds_start (b : ℕ) (q : Vec Ideal S128x1024 .bf16) (hq : ∀ R k, q (ix2 R k) = ((diag D b R k : ℝ) : EReal)) :
    Holds D b 0 q (k0_pay36 (F := Ideal)) (k0_pay37 (F := Ideal)) (k0_pay38 (F := Ideal)) := by
  have hm : ∀ R : Fin 128, k0_pay36 (F := Ideal) (ix3 (0 : Fin 1) R (0 : Fin 128)) = ⊥ := fun R => by
    pointwise [k0_pay36]
    rfl
  refine ⟨hq, fun R => .inl ⟨hm R, ?_, rfl⟩, fun R e => .inl ⟨hm R, ?_, rfl⟩⟩
  · pointwise [k0_pay37]
  · pointwise [k0_pay38]

/-- One block of 128 keys more. -/
theorem Holds.step {b N : ℕ} (hN : N ≤ 16384) {q : Vec Ideal S128x1024 .bf16} {M L : Vec Ideal S1x128x128 .f32} {A : Vec Ideal S1x128x1024 .f32}
    (H : Holds D b N q M L A) (s : FVec Ideal S128x128 .f32) (v : FVec Ideal S128x1024 .f32)
    (hs : ∀ R j : Fin 128, s (ix2 R j) = D.masked b R (N + j)) (hv : ∀ (j : Fin 128) (e : Fin 1024), v (ix2 j e) = ((D.val b (N + j) e : ℝ) : EReal)) :
    Holds D b (N + 128) q (k0_pay46 s M) (k0_pay1 (k0_pay47 s M L)) (k0_pay45 s v M A) := by
  have hμ : ∀ R : Fin 128, ∃ μ : ℝ, k0_pay42 s M (ix2 R (0 : Fin 1)) = (μ : EReal) := fun R => by
    rw [AttSIdeal.max_at]
    refine max_real _ ?_ _ (fun j => ?_) (.inr ⟨0, ?_⟩)
    · rcases H.l_at R with ⟨h, -, -⟩ | ⟨μ, h, -⟩ <;> rw [h]
      · exact bot_ne_top
      · exact EReal.coe_ne_top _
    · rw [hs]; exact D.masked_ne_top _ _ _
    · rw [hs, Data.masked, if_pos (by show N + 0 ≤ _; omega)]; exact EReal.coe_ne_bot _
  refine ⟨H.q_at, fun R => ?_, fun R e => ?_⟩ <;> obtain ⟨μ, h⟩ := hμ R
  · rw [AttSIdeal.m_at, AttSIdeal.l_at, h, D.total_add]
    simp only [hs]
    exact (H.l_at R).step_one _ (fun j => D.masked_ne_top _ _ _) μ
  · rw [AttSIdeal.m_at, AttSIdeal.a_at, h, D.mix_add]
    simp only [hs, hv]
    exact (H.a_at R e).step _ (fun j => D.masked_ne_top _ _ _) _ μ

/-! ### The last point of a sequence -/

/-- The quotient the last point takes is the attended value. -/
theorem Holds.mean {b : ℕ} {q : Vec Ideal S128x1024 .bf16} {M L : Vec Ideal S1x128x128 .f32} {A : Vec Ideal S1x128x1024 .f32}
    (H : Holds D b (16384 + 128) q M L A) (R : Fin 128) (e : Fin 1024) : k0_pay17 A L (ix2 R e) = ((D.mean b R e : ℝ) : EReal) := by
  have hl := H.l_at R
  have ha := H.a_at R e
  rw [D.total_late] at hl
  rw [D.mix_late] at ha
  refine Eq.trans ?_ (ha.div hl (D.total_ne_zero b R))
  pointwise [k0_pay17]

/-- The mixing weight of the two halves. -/
theorem lam_at (x y z w : Vec Ideal S1x64 .f32) : k0_pay16 (k0_pay14 x y) (k0_pay15 z w) (ix2 (0 : Fin 1) (0 : Fin 1)) =
    Ideal.exp (∑ k, x (ix2 (0 : Fin 1) k) * y (ix2 (0 : Fin 1) k)) - Ideal.exp (∑ k, z (ix2 (0 : Fin 1) k) * w (ix2 (0 : Fin 1) k))
      + Ideal.ofBits .f32 0x3E4CCCCD#32 := by
  pointwise [k0_pay16, k0_pay14, k0_pay15]

/-- Head `h` of the result from the attended values: the two halves mixed, normed and scaled. -/
def headOf (lam : FVec Ideal S1x1 .f32) (on : FVec Ideal S128x1024 .f32) (g : Vec Ideal S1x128 .f32) (h i : Fin 8) (e : Fin 128) : EReal :=
  normed (fun k => on (ix2 (⟨16 * h.val + i.val, by omega⟩ : Fin 128) (⟨128 * h.val + k.val, by omega⟩ : Fin 1024))
    - lam (ix2 (0 : Fin 1) (0 : Fin 1)) * on (ix2 (⟨16 * h.val + 8 + i.val, by omega⟩ : Fin 128) (⟨128 * h.val + k.val, by omega⟩ : Fin 1024)))
    (fun k => g (ix2 (0 : Fin 1) k)) e

section
variable (x y : FVec Ideal S1x1 .f32) (A : Vec Ideal S1x128x1024 .f32) (L : Vec Ideal S1x128x128 .f32) (lam : FVec Ideal S1x1 .f32)
  (on : FVec Ideal S128x1024 .f32) (g : Vec Ideal S1x128 .f32) (i : Fin 8) (e : Fin 128)

/-- The stores of the first two heads, which form the weight and the quotient themselves. -/
theorem heads01 : k0_pay18 x y A L g (ix2 i e) = headOf (k0_pay16 x y) (k0_pay17 A L) g 0 i e ∧
    k0_pay21 (k0_pay19 x y A L) g (k0_pay20 x y A L) (ix2 i e) = headOf (k0_pay16 x y) (k0_pay17 A L) g 1 i e := by
  refine ⟨?_, ?_⟩
  · pointwise [k0_pay18]; simp [headOf, normed]
  · pointwise [k0_pay21, k0_pay20, k0_pay19]; rfl

/-- The stores of the other heads. -/
theorem heads27 : k0_pay22 lam on g (ix2 i e) = headOf lam on g 2 i e ∧
    k0_pay25 (k0_pay23 lam on) g (k0_pay24 lam on) (ix2 i e) = headOf lam on g 3 i e ∧
    k0_pay26 lam on g (ix2 i e) = headOf lam on g 4 i e ∧
    k0_pay29 (k0_pay27 lam on) g (k0_pay28 lam on) (ix2 i e) = headOf lam on g 5 i e ∧
    k0_pay30 lam on g (ix2 i e) = headOf lam on g 6 i e ∧
    k0_pay2 (F := Ideal) (k0_pay31 lam on) g (k0_pay32 lam on) (ix2 i e) = headOf lam on g 7 i e := by
  refine ⟨?_, ?_, ?_, ?_, ?_, ?_⟩
  · pointwise [k0_pay22]; rfl
  · pointwise [k0_pay25, k0_pay23, k0_pay24]; rfl
  · pointwise [k0_pay26]; rfl
  · pointwise [k0_pay29, k0_pay27, k0_pay28]; rfl
  · pointwise [k0_pay30]; rfl
  · pointwise [k0_pay2, k0_pay31, k0_pay32]; rfl

end

end Cert.AttSIdeal

end
-- ==== Proof.AttSState.lean ====
module

public import proofs.«01_k».proof.Defs
public import proofs.«01_k».proof.Proof.AttSTable
public import proofs.«01_k».proof.Proof.AttSKernel
public import proofs.«01_k».proof.Proof.Gen.AttSIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttSIdeal

open Cert.AttSIdeal Cert.AttSIdeal.Gen Cert.AttSMath

variable (m : (ℓ : Loc nD τ sig) → Buf (Elt Ideal) ℓ) (hO : Ok m) (c : Dev nD)

/-- The sequence and the page of a grid point. -/
theorem at_point : ∀ t : Fin grid0.N, (grid0.coords t 0).val = t.val / 128 ∧ (grid0.coords t 1).val = t.val % 128 := by decide +kernel

/-- Where the windows on the projection and on the result sit. -/
theorem place : ∀ t : Fin grid0.N, cc0_transform_0 (grid0.coords t) = ![1024 + t.val / 128, 1] ∧ cc0_transform_1 (grid0.coords t) = ![1024 + t.val / 128, 2]
    ∧ cc0_transform_2 (grid0.coords t) = ![1024 + t.val / 128, 3] ∧ cc0_transform_3 (grid0.coords t) = ![1024 + t.val / 128, 4]
    ∧ cc0_transform_4 (grid0.coords t) = ![1024 + t.val / 128, 5] ∧ cc0_transform_5 (grid0.coords t) = ![1024 + t.val / 128, 6]
    ∧ cc0_transform_13 (grid0.coords t) = ![t.val / 128, 0] := by decide +kernel

/-- The windows' index maps at the table the launch finds. -/
theorem index_eq (w : Fin 14) (t : Fin (cfgM m hO).N) : (pcfg0.win (adm m hO) w).index t = ix0 (tbl m) w (grid0.coords t) := rfl

/-- An element's place along an axis, the block's place there rewritten. -/
theorem at_axis {x n s k r : ℕ} (hx : x = n) (h : n * s + k = r) : x * s + k = r := hx ▸ h

/-- The same where the block's place is zero. -/
theorem at_zero {x s k : ℕ} (hx : x = 0) : x * s + k = k := by rw [hx, Nat.zero_mul, Nat.zero_add]

/-- The same along an axis on which blocks have one element. -/
theorem at_one {x n : ℕ} (hx : x = n) : x + 0 = n := hx

/-- The blocks of the projection: the sequence's eight query rows, the queries, the new keys and the new values, each in two halves. -/
theorem proj_blocks (t : Fin (cfgM m hO).N) (i : Fin 8) (k : Fin 512) (r : Fin 8256) (hr : r.val = 8192 + 8 * (t.val / 128) + i) :
    iblk m hO c 0 t (ix2 i k) = m ((c : Thread nD τ).loc main_arg1) (ix2 r (⟨512 + k, by omega⟩ : Fin 5632)) ∧
    iblk m hO c 1 t (ix2 i k) = m ((c : Thread nD τ).loc main_arg1) (ix2 r (⟨1024 + k, by omega⟩ : Fin 5632)) ∧
    iblk m hO c 2 t (ix2 i k) = m ((c : Thread nD τ).loc main_arg1) (ix2 r (⟨1536 + k, by omega⟩ : Fin 5632)) ∧
    iblk m hO c 3 t (ix2 i k) = m ((c : Thread nD τ).loc main_arg1) (ix2 r (⟨1536 + (512 + k), by omega⟩ : Fin 5632)) ∧
    iblk m hO c 4 t (ix2 i k) = m ((c : Thread nD τ).loc main_arg1) (ix2 r (⟨2560 + k, by omega⟩ : Fin 5632)) ∧
    iblk m hO c 5 t (ix2 i k) = m ((c : Thread nD τ).loc main_arg1) (ix2 r (⟨2560 + (512 + k), by omega⟩ : Fin 5632)) := by
  obtain ⟨e0, e1, e2, e3, e4, e5, -⟩ := place t
  refine ⟨?_, ?_, ?_, ?_, ?_, ?_⟩ <;> blk_ext [iblk, V]
  · exact at_axis (congrFun e0 0) (by rw [hr]; show (1024 + t.val / 128) * 8 + i.val = _; omega)
  · exact at_axis (congrFun e0 1) rfl
  · exact at_axis (congrFun e1 0) (by rw [hr]; show (1024 + t.val / 128) * 8 + i.val = _; omega)
  · exact at_axis (congrFun e1 1) rfl
  · exact at_axis (congrFun e2 0) (by rw [hr]; show (1024 + t.val / 128) * 8 + i.val = _; omega)
  · exact at_axis (congrFun e2 1) rfl
  · exact at_axis (congrFun e3 0) (by rw [hr]; show (1024 + t.val / 128) * 8 + i.val = _; omega)
  · exact at_axis (congrFun e3 1) (by show 4 * 512 + k.val = _; omega)
  · exact at_axis (congrFun e4 0) (by rw [hr]; show (1024 + t.val / 128) * 8 + i.val = _; omega)
  · exact at_axis (congrFun e4 1) rfl
  · exact at_axis (congrFun e5 0) (by rw [hr]; show (1024 + t.val / 128) * 8 + i.val = _; omega)
  · exact at_axis (congrFun e5 1) (by show 6 * 512 + k.val = _; omega)

/-- The whole windows on the four mixing vectors and the norm's scale. -/
theorem whole_blocks (t : Fin (cfgM m hO).N) :
    (∀ k : Fin 64, iblk m hO c 8 t (ix2 (0 : Fin 1) k) = m ((c : Thread nD τ).loc main_arg4) (ix2 (0 : Fin 1) k)) ∧
    (∀ k : Fin 64, iblk m hO c 9 t (ix2 (0 : Fin 1) k) = m ((c : Thread nD τ).loc main_arg5) (ix2 (0 : Fin 1) k)) ∧
    (∀ k : Fin 64, iblk m hO c 10 t (ix2 (0 : Fin 1) k) = m ((c : Thread nD τ).loc main_arg6) (ix2 (0 : Fin 1) k)) ∧
    (∀ k : Fin 64, iblk m hO c 11 t (ix2 (0 : Fin 1) k) = m ((c : Thread nD τ).loc main_arg7) (ix2 (0 : Fin 1) k)) ∧
    (∀ k : Fin 128, iblk m hO c 12 t (ix2 (0 : Fin 1) k) = m ((c : Thread nD τ).loc main_arg8) (ix2 (0 : Fin 1) k)) := by
  refine ⟨fun k => ?_, fun k => ?_, fun k => ?_, fun k => ?_, fun k => ?_⟩ <;> blk_ext [iblk, V]
  all_goals first | exact at_one rfl | exact at_zero rfl

/-- The page windows: the page of the cache that the table names for the sequence and page number of the point. -/
theorem page_blocks (t : Fin (cfgM m hO).N) (r : Fin 128) (k : Fin 1024) (b : Fin 8) (p : Fin 128) (hb : b.val = t.val / 128) (hp : p.val = t.val % 128)
    (pg : Fin 1280) (hg : pg.val = (show BitVec 32 from m (((0 : Dev nD) : Thread nD τ).loc main_arg0) (ix2 b p)).toNat) :
    iblk m hO c 6 t (ix4 (0 : Fin 1) (0 : Fin 1) r k) = m ((c : Thread nD τ).loc main_arg2) (ix4 (0 : Fin 4) pg r k) ∧
    iblk m hO c 7 t (ix4 (0 : Fin 1) (0 : Fin 1) r k) = m ((c : Thread nD τ).loc main_arg3) (ix4 (0 : Fin 4) pg r k) := by
  obtain ⟨c0, c1⟩ := at_point t
  have e : cc0_transform_6 k0_off1_inb numel1_S1x1 (tbl m) (grid0.coords t) = ![0, pg.val, 0, 0] := by
    rw [place6, hg, show grid0.coords t 0 = b from Fin.ext (c0.trans hb.symm), show grid0.coords t 1 = p from Fin.ext (c1.trans hp.symm)]
    rfl
  refine ⟨?_, ?_⟩ <;> blk_ext [iblk, V]
  · exact at_one (congrFun e 0)
  · exact at_one (congrFun e 1)
  · exact at_zero (congrFun e 2)
  · exact at_zero (congrFun e 3)
  · exact at_one (congrFun e 0)
  · exact at_one (congrFun e 1)
  · exact at_zero (congrFun e 2)
  · exact at_zero (congrFun e 3)

/-- The blocks of a point as arrays of their literal shapes. -/
theorem blocks (t : Fin (cfgM m hO).N) : ∃ (x0 x1 x2 x3 x4 x5 : Vec Ideal S8x512 .f32) (x6 x7 : Vec Ideal S1x1x128x1024 .f32)
    (x8 x9 x10 x11 : Vec Ideal S1x64 .f32) (x12 : Vec Ideal S1x128 .f32),
    x0 = iblk m hO c 0 t ∧ x1 = iblk m hO c 1 t ∧ x2 = iblk m hO c 2 t ∧ x3 = iblk m hO c 3 t ∧ x4 = iblk m hO c 4 t ∧ x5 = iblk m hO c 5 t ∧
    x6 = iblk m hO c 6 t ∧ x7 = iblk m hO c 7 t ∧ x8 = iblk m hO c 8 t ∧ x9 = iblk m hO c 9 t ∧ x10 = iblk m hO c 10 t ∧ x11 = iblk m hO c 11 t ∧
    x12 = iblk m hO c 12 t := ⟨_, _, _, _, _, _, _, _, _, _, _, _, _, rfl, rfl, rfl, rfl, rfl, rfl, rfl, rfl, rfl, rfl, rfl, rfl, rfl⟩

/-- What the first point of a sequence leaves in the scratch. -/
theorem state_first (t : Fin (cfgM m hO).N) (h0 : t.val % 128 = 0) :
    (outsAt0 m hO c t.val t.isLt).2.1 = k0_pay35 (iblk m hO c 0 t) (iblk m hO c 1 t) ∧
    (outsAt0 m hO c t.val t.isLt).2.2.1 = k0_pay46 (k0_pay39 (grid0.coords t) (k0_pay35 (iblk m hO c 0 t) (iblk m hO c 1 t)) (iblk m hO c 6 t)) (k0_pay36 (F := Ideal)) ∧
    (outsAt0 m hO c t.val t.isLt).2.2.2.1 =
      k0_pay1 (k0_pay47 (k0_pay39 (grid0.coords t) (k0_pay35 (iblk m hO c 0 t) (iblk m hO c 1 t)) (iblk m hO c 6 t)) (k0_pay36 (F := Ideal)) (k0_pay37 (F := Ideal))) ∧
    (outsAt0 m hO c t.val t.isLt).2.2.2.2 =
      k0_pay45 (k0_pay39 (grid0.coords t) (k0_pay35 (iblk m hO c 0 t) (iblk m hO c 1 t)) (iblk m hO c 6 t)) (k0_pay40 (iblk m hO c 7 t)) (k0_pay36 (F := Ideal)) (k0_pay38 (F := Ideal)) := by
  rw [outsAt0_A m hO c t h0 (by omega)]
  obtain ⟨x0, x1, x2, x3, x4, x5, x6, x7, x8, x9, x10, x11, x12, e0, e1, e2, e3, e4, e5, e6, e7, e8, e9, e10, e11, e12⟩ := blocks m hO c t
  rw [← e0, ← e1, ← e2, ← e3, ← e4, ← e5, ← e6, ← e7, ← e8, ← e9, ← e10, ← e11, ← e12]
  dsimp only
  refine ⟨?_, ?_, ?_, ?_⟩ <;> (try frame_out) <;> simp only [Memref.IsWhole.read_unread]

section
variable (t : Fin (cfgM m hO).N) (h0 : ¬t.val % 128 = 0)

/-- What the point before left. -/
abbrev before := outsAt0 m hO c (t.val - 1) (Nat.lt_of_le_of_lt (Nat.sub_le _ _) t.isLt)

/-- The page's scores at a point that is not the first. -/
abbrev pageScores : FVec Ideal S128x128 .f32 := k0_pay39 (grid0.coords t) (before m hO c t).2.1 (iblk m hO c 6 t)

include h0 in
/-- What a point that is neither first nor last leaves in the scratch. -/
theorem state_middle (h1 : ¬t.val % 128 = 127) :
    (outsAt0 m hO c t.val t.isLt).2.1 = (before m hO c t).2.1 ∧
    (outsAt0 m hO c t.val t.isLt).2.2.1 = k0_pay46 (pageScores m hO c t) (before m hO c t).2.2.1 ∧
    (outsAt0 m hO c t.val t.isLt).2.2.2.1 = k0_pay1 (k0_pay47 (pageScores m hO c t) (before m hO c t).2.2.1 (before m hO c t).2.2.2.1) ∧
    (outsAt0 m hO c t.val t.isLt).2.2.2.2 =
      k0_pay45 (pageScores m hO c t) (k0_pay40 (iblk m hO c 7 t)) (before m hO c t).2.2.1 (before m hO c t).2.2.2.2 := by
  rw [outsAt0_B m hO c t h0 h1]
  unfold pageScores before
  obtain ⟨x0, x1, x2, x3, x4, x5, x6, x7, x8, x9, x10, x11, x12, e0, e1, e2, e3, e4, e5, e6, e7, e8, e9, e10, e11, e12⟩ := blocks m hO c t
  rw [← e0, ← e1, ← e2, ← e3, ← e4, ← e5, ← e6, ← e7, ← e8, ← e9, ← e10, ← e11, ← e12]
  dsimp only
  refine ⟨?_, ?_, ?_, ?_⟩ <;> (try frame_out) <;> (try simp only [Memref.IsWhole.read_unread, read_unread_whole]) <;> (try rfl)

/-- An element of head `h` lies in the piece stored for head `n` only if the two are the same head. -/
theorem piece_place (n : Fin 8) (off : ℕ) (ho : off = 128 * n.val) (h i : Fin 8) (e : Fin 128) (x : S8x128.Idx) (h0 : i.val = (x 0).val)
    (h1 : 128 * h.val + e.val = off + (x 1).val) : h = n ∧ x = ix2 i e := by
  have hx : (x 1).val < 128 := (x 1).isLt
  have he := e.isLt
  exact ⟨Fin.ext (by omega), (eq_ix2 (n0 := 8) (n1 := 128) x).trans (by
    rw [show x 0 = i from Fin.ext h0.symm, show x 1 = e from Fin.ext (by show (x 1).val = e.val; omega)])⟩

/-- The new keys' scores at the last point. -/
abbrev newScores : FVec Ideal S128x128 .f32 := k0_pay5 k0_pay33 k0_pay34 (iota Kind.tc S1x128 32 [1] iota_S1x128_d1_w32) (iblk m hO c 2 t) (iblk m hO c 3 t) (before m hO c t).2.1

include h0 in
/-- What the last point of a sequence leaves in the scratch: the page's step and then the new keys'. -/
theorem state_last (h1 : t.val % 128 = 127) :
    (outsAt0 m hO c t.val t.isLt).2.1 = (before m hO c t).2.1 ∧
    (outsAt0 m hO c t.val t.isLt).2.2.1 = k0_pay46 (newScores m hO c t) (k0_pay46 (pageScores m hO c t) (before m hO c t).2.2.1) ∧
    (outsAt0 m hO c t.val t.isLt).2.2.2.1 = k0_pay1 (k0_pay47 (newScores m hO c t) (k0_pay46 (pageScores m hO c t) (before m hO c t).2.2.1)
      (k0_pay1 (k0_pay47 (pageScores m hO c t) (before m hO c t).2.2.1 (before m hO c t).2.2.2.1))) ∧
    (outsAt0 m hO c t.val t.isLt).2.2.2.2 = k0_pay45 (newScores m hO c t) (k0_pay4 (iblk m hO c 4 t) (iblk m hO c 5 t))
      (k0_pay46 (pageScores m hO c t) (before m hO c t).2.2.1)
      (k0_pay45 (pageScores m hO c t) (k0_pay40 (iblk m hO c 7 t)) (before m hO c t).2.2.1 (before m hO c t).2.2.2.2) := by
  rw [outsAt0_C m hO c t h0 h1]
  unfold newScores pageScores before
  obtain ⟨x0, x1, x2, x3, x4, x5, x6, x7, x8, x9, x10, x11, x12, e0, e1, e2, e3, e4, e5, e6, e7, e8, e9, e10, e11, e12⟩ := blocks m hO c t
  rw [← e0, ← e1, ← e2, ← e3, ← e4, ← e5, ← e6, ← e7, ← e8, ← e9, ← e10, ← e11, ← e12]
  dsimp only
  refine ⟨?_, ?_, ?_, ?_⟩ <;> (try frame_out) <;> (try simp only [Memref.IsWhole.read_unread, read_unread_whole]) <;> (try rfl)

include h0 in
/-- What the last point of a sequence writes out, at an element of head `h`. -/
theorem written (h1 : t.val % 128 = 127) (h i : Fin 8) (e : Fin 128) (j : Fin 1024) (hj : j.val = 128 * h + e) :
    (outsAt0 m hO c t.val t.isLt).1 (ix2 i j) = headOf (k0_pay16 (k0_pay14 (iblk m hO c 8 t) (iblk m hO c 9 t)) (k0_pay15 (iblk m hO c 10 t) (iblk m hO c 11 t)))
      (k0_pay17 (outsAt0 m hO c t.val t.isLt).2.2.2.2 (outsAt0 m hO c t.val t.isLt).2.2.2.1) (iblk m hO c 12 t) h i e := by
  obtain ⟨-, -, eL, eA⟩ := state_last m hO c t h0 h1
  rw [eL, eA, outsAt0_C m hO c t h0 h1]
  unfold newScores pageScores before
  obtain ⟨x0, x1, x2, x3, x4, x5, x6, x7, x8, x9, x10, x11, x12, e0, e1, e2, e3, e4, e5, e6, e7, e8, e9, e10, e11, e12⟩ := blocks m hO c t
  rw [← e0, ← e1, ← e2, ← e3, ← e4, ← e5, ← e6, ← e7, ← e8, ← e9, ← e10, ← e11, ← e12]
  dsimp only
  clear eL eA
  frame_out
  simp only [Memref.IsWhole.read_unread, read_unread_whole]
  canon_tiles x h
  · obtain ⟨rfl, rfl⟩ := piece_place 7 896 rfl h i e x h0 (hj.symm.trans h1)
    exact (heads27 _ _ _ i e).2.2.2.2.2
  · obtain ⟨rfl, rfl⟩ := piece_place 6 768 rfl h i e x h0 (hj.symm.trans h1)
    exact (heads27 _ _ _ i e).2.2.2.2.1
  · obtain ⟨rfl, rfl⟩ := piece_place 5 640 rfl h i e x h0 (hj.symm.trans h1)
    exact (heads27 _ _ _ i e).2.2.2.1
  · obtain ⟨rfl, rfl⟩ := piece_place 4 512 rfl h i e x h0 (hj.symm.trans h1)
    exact (heads27 _ _ _ i e).2.2.1
  · obtain ⟨rfl, rfl⟩ := piece_place 3 384 rfl h i e x h0 (hj.symm.trans h1)
    exact (heads27 _ _ _ i e).2.1
  · obtain ⟨rfl, rfl⟩ := piece_place 2 256 rfl h i e x h0 (hj.symm.trans h1)
    exact (heads27 _ _ _ i e).1
  · obtain ⟨rfl, rfl⟩ := piece_place 1 128 rfl h i e x h0 (hj.symm.trans h1)
    exact (heads01 _ _ _ _ _ i e).2
  · obtain ⟨rfl, rfl⟩ := piece_place 0 0 rfl h i e x h0 (hj.symm.trans (h1.trans (Nat.zero_add _).symm))
    exact (heads01 _ _ _ _ _ i e).1

end

end Cert.AttSIdeal
end
-- ==== Proof.AttSRef.lean ====
module

public import proofs.«01_k».proof.Defs
public import proofs.«01_k».proof.Proof.AttSMath
public import proofs.«01_k».proof.Proof.Gen.AttSRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AttSRefIdeal

open Cert.AttSRefIdeal Cert.AttSRefIdeal.Gen Cert.AttSMath

/-- The attention's data: the real numbers the arrays hold. -/
def dataOf (x0 : (⟨S8x128, .i32⟩ : BufTy).Contents (Elt Ideal)) (x1 : (⟨S8256x5632, .f32⟩ : BufTy).Contents (Elt Ideal))
    (x2 x3 : (⟨S4x1280x128x1024, .f32⟩ : BufTy).Contents (Elt Ideal)) : Data where
  proj r c := EReal.toReal (x1 (ix2 (Fin.ofNat 8256 r) (Fin.ofNat 5632 c)))
  pageK p r c := EReal.toReal (x2 (ix4 (0 : Fin 4) (Fin.ofNat 1280 p) (Fin.ofNat 128 r) (Fin.ofNat 1024 c)))
  pageV p r c := EReal.toReal (x3 (ix4 (0 : Fin 4) (Fin.ofNat 1280 p) (Fin.ofNat 128 r) (Fin.ofNat 1024 c)))
  table b p := BitVec.toNat (x0 (ix2 (Fin.ofNat 8 b) (Fin.ofNat 128 p)))

/-- An array of real numbers. -/
def Real' {s : Shape} (x : s.Idx → EReal) : Prop := ∀ i, x i = ((x i).toReal : EReal)

/-- The gather of pages takes page `w` where the index array says `w`. -/
theorem gather_page (x : S1280x128x1024.Idx → EReal) (idx : IVec S8x128x1 32) (b : Fin 8) (p : Fin 128) (r : Fin 128) (c : Fin 1024)
    (w : ℕ) (hw : w < 1280) (h : (idx (ix3 b p (0 : Fin 1))).toInt.toNat = w) :
    Host.gather gather_S1280x128x1024_S8x128x1_S8x128x128x1024_23_0_n_n_0_2_11281024 x idx (ix4 b p r c) = x (ix3 ⟨w, hw⟩ r c) := by
  refine congrArg x (funext fun a => Fin.ext ?_)
  match a with
  | ⟨0, _⟩ =>
    show min (idx _).toInt.toNat 1279 + 0 + 0 = w
    rw [show ∀ k, k = ix3 b p (0 : Fin 1) → (idx k).toInt.toNat = w from fun k hk => hk ▸ h]
    · omega
    · funext a
      match a with
      | ⟨0, _⟩ => rfl
      | ⟨1, _⟩ => rfl
      | ⟨2, _⟩ => rfl
  | ⟨1, _⟩ => show 0 + 0 + r.val = r.val; omega
  | ⟨2, _⟩ => show 0 + 0 + c.val = c.val; omega

/-- A number below `n`, read back modulo `n`. -/
theorem ofNat_val {n : ℕ} [NeZero n] (k : Fin n) : Fin.ofNat n k.val = k := Fin.ext (Nat.mod_eq_of_lt k.isLt)

/-- A maximum over the last of five axes. -/
theorem reduce_max {n0 n1 n2 n3 n4 : ℕ} (h : (⟨5, ![n0, n1, n2, n3, n4]⟩ : Shape).ReducesTo [4] ⟨4, ![n0, n1, n2, n3]⟩)
    {u : Shape} (hu : 0 < u.numel) (y : (⟨5, ![n0, n1, n2, n3, n4]⟩ : Shape).Idx → EReal) (init : u.Idx → EReal)
    (a : Fin n0) (b : Fin n1) (c : Fin n2) (d : Fin n3) :
    Host.reduce (FloatOps.maximumf (F := Ideal) (φ := .f32)) y init h hu (ix4 a b c d) =
      Finset.univ.fold max (init (Shape.Idx.first hu)) fun n : Fin n4 => y (ix5 a b c d n) := by
  rw [Ideal.maximumf_eq_max]
  exact (Host.reduce_eq_fold max y init h hu (ix4 a b c d)).trans (h.fold_fiber_r5_a4 (ix4 a b c d) max _ y)

/-- The softmax's operations at an index, given the scores and the maxima. -/
theorem soft_of (y : (⟨S8x8x2x8x16392, .f32⟩ : BufTy).Contents (Elt Ideal)) (z : (⟨S8x8x2x8, .f32⟩ : BufTy).Contents (Elt Ideal))
    (b h : Fin 8) (c : Fin 2) (q : Fin 8) (n : Fin 16392) :
    Host.divf (F := Ideal) (φ := .f32) (Host.exp (F := Ideal) (φ := .f32) (subf (F := Ideal) (φ := .f32) y
        (broadcastInDim S8x8x2x8x16392 ![0, 1, 2, 3, 4] bcast_S8x8x2x8x1_S8x8x2x8x16392_0_1_2_3_4
          (broadcastInDim S8x8x2x8x1 ![0, 1, 2, 3] bcast_S8x8x2x8_S8x8x2x8x1_0_1_2_3 z))))
      (broadcastInDim S8x8x2x8x16392 ![0, 1, 2, 3, 4] bcast_S8x8x2x8x1_S8x8x2x8x16392_0_1_2_3_4
        (broadcastInDim S8x8x2x8x1 ![0, 1, 2, 3] bcast_S8x8x2x8_S8x8x2x8x1_0_1_2_3
          (Host.reduceAdd (F := Ideal) (Host.exp (F := Ideal) (φ := .f32) (subf (F := Ideal) (φ := .f32) y
            (broadcastInDim S8x8x2x8x16392 ![0, 1, 2, 3, 4] bcast_S8x8x2x8x1_S8x8x2x8x16392_0_1_2_3_4
              (broadcastInDim S8x8x2x8x1 ![0, 1, 2, 3] bcast_S8x8x2x8_S8x8x2x8x1_0_1_2_3 z))))
            (constant S_ .f32 0x00000000#32) reducesTo_S8x8x2x8x16392_S8x8x2x8_d4 h_S_))) (ix5 b h c q n) =
      Ideal.div (Ideal.exp (y (ix5 b h c q n) - z (ix4 b h c q))) (∑ k, Ideal.exp (y (ix5 b h c q k) - z (ix4 b h c q))) := by
  pointwise

/-- The mixing of the two halves' weights and the product with the values, at an index. -/
theorem mix_of (y : (⟨S8x8x2x8x16392, .f32⟩ : BufTy).Contents (Elt Ideal)) (v : (⟨S8x16392x1024, .f32⟩ : BufTy).Contents (Elt Ideal))
    (l : (⟨S_, .f32⟩ : BufTy).Contents (Elt Ideal)) (b q h : Fin 8) (e : Fin 128) :
    transpose S8x8x8x128 [0, 3, 1, 2] (Host.dotGeneral (F := Ideal) (φ₁ := .f32) (φ₂ := .f32) dot_S8x16392x8x128_S8x8x8x16392_S8x8x128x8_1_3_3_2_02_01 none
      (shapeCast S8x16392x8x128 v shapeCasts_S8x16392x1024_S8x16392x8x128)
      (subf (F := Ideal) (φ := .f32)
        (shapeCast S8x8x8x16392 (extractStridedSlice S8x8x1x8x16392 ![0, 0, 0, 0, 0] y slices_S8x8x2x8x16392_S8x8x1x8x16392_0_0_0_0_0)
          shapeCasts_S8x8x1x8x16392_S8x8x8x16392)
        (mulf (F := Ideal) (φ := .f32) (broadcastInDim S8x8x8x16392 ![] bcast_S_S8x8x8x16392 l)
          (shapeCast S8x8x8x16392 (extractStridedSlice S8x8x1x8x16392 ![0, 0, 1, 0, 0] y slices_S8x8x2x8x16392_S8x8x1x8x16392_0_0_1_0_0)
            shapeCasts_S8x8x1x8x16392_S8x8x8x16392)))) transposes_S8x8x128x8_S8x8x8x128_0_3_1_2 (ix4 b q h e) =
      ∑ n : Fin 16392, v (ix3 b n ⟨h.val * 128 + e.val, by omega⟩) * (y (ix5 b h (0 : Fin 2) q n) - l ix0 * y (ix5 b h (1 : Fin 2) q n)) := by
  pointwise

/-- The norm's operations at an index. -/
theorem norm_of (y : (⟨S8x8x8x128, .f32⟩ : BufTy).Contents (Elt Ideal)) (g : (⟨S1x128, .f32⟩ : BufTy).Contents (Elt Ideal))
    (b q h : Fin 8) (e : Fin 128) :
    mulf (F := Ideal) (φ := .f32) (mulf (F := Ideal) (φ := .f32) (mulf (F := Ideal) (φ := .f32) y
      (broadcastInDim S8x8x8x128 ![0, 1, 2, 3] bcast_S8x8x8x1_S8x8x8x128_0_1_2_3 (Host.rsqrt (F := Ideal) (φ := .f32)
        (addf (F := Ideal) (φ := .f32) (Host.divf (F := Ideal) (φ := .f32) (broadcastInDim S8x8x8x1 ![0, 1, 2] bcast_S8x8x8_S8x8x8x1_0_1_2
          (Host.reduceAdd (F := Ideal) (mulf (F := Ideal) (φ := .f32) y y) (constant S_ .f32 0x00000000#32) reducesTo_S8x8x8x128_S8x8x8_d3 h_S_))
          (broadcastInDim S8x8x8x1 ![] bcast_S_S8x8x8x1 (constant (F := Ideal) S_ .f32 0x43000000#32)))
          (broadcastInDim S8x8x8x1 ![] bcast_S_S8x8x8x1 (constant (F := Ideal) S_ .f32 0x358637BD#32))))))
      (broadcastInDim S8x8x8x128 ![0, 1, 2, 3] bcast_S1x1x1x128_S8x8x8x128_0_1_2_3 (broadcastInDim S1x1x1x128 ![3] bcast_S128_S1x1x1x128_3
        (shapeCast S128 g shapeCasts_S1x128_S128))))
      (broadcastInDim S8x8x8x128 ![] bcast_S_S8x8x8x128 (constant (F := Ideal) S_ .f32 0x3F4CCCCD#32)) (ix4 b q h e) =
      normed (fun k => y (ix4 b q h k)) (fun k => g (ix2 (0 : Fin 1) k)) e := by
  pointwise
  rfl

/-- The norm over a head, at an index. -/
theorem norm_at (x0 : (⟨S8x128, .i32⟩ : BufTy).Contents (Elt Ideal)) (x1 : (⟨S8256x5632, .f32⟩ : BufTy).Contents (Elt Ideal))
    (x2 x3 : (⟨S4x1280x128x1024, .f32⟩ : BufTy).Contents (Elt Ideal)) (x4 x5 x6 x7 : (⟨S1x64, .f32⟩ : BufTy).Contents (Elt Ideal)) (x8 : (⟨S1x128, .f32⟩ : BufTy).Contents (Elt Ideal))
    (b q h : Fin 8) (e : Fin 128) :
    Read.val_main_v106 x0 x1 x2 x3 x4 x5 x6 x7 x8 (ix4 b q h e) =
      normed (fun k => Read.val_main_v90 x0 x1 x2 x3 x4 x5 x6 x7 (ix4 b q h k)) (fun k => x8 (ix2 (0 : Fin 1) k)) e :=
  norm_of (Read.val_main_v90 x0 x1 x2 x3 x4 x5 x6 x7) x8 b q h e

section
variable (x0 : (⟨S8x128, .i32⟩ : BufTy).Contents (Elt Ideal)) (x1 : (⟨S8256x5632, .f32⟩ : BufTy).Contents (Elt Ideal))
    (x2 x3 : (⟨S4x1280x128x1024, .f32⟩ : BufTy).Contents (Elt Ideal))

/-- The projection holds the data's numbers. -/
theorem proj_at (h1 : Real' x1) (r : Fin 8256) (c : Fin 5632) : x1 (ix2 r c) = ((dataOf x0 x1 x2 x3).proj r c : EReal) := by
  rw [h1]; simp only [dataOf, ofNat_val]

/-- The cache of keys holds the data's numbers. -/
theorem pageK_at (h2 : Real' x2) (p : Fin 1280) (r : Fin 128) (c : Fin 1024) :
    x2 (ix4 (0 : Fin 4) p r c) = ((dataOf x0 x1 x2 x3).pageK p r c : EReal) := by
  rw [h2]; simp only [dataOf, ofNat_val]

/-- The cache of values holds the data's numbers. -/
theorem pageV_at (h3 : Real' x3) (p : Fin 1280) (r : Fin 128) (c : Fin 1024) :
    x3 (ix4 (0 : Fin 4) p r c) = ((dataOf x0 x1 x2 x3).pageV p r c : EReal) := by
  rw [h3]; simp only [dataOf, ofNat_val]

/-- The table holds the data's page numbers. -/
theorem table_at (b : Fin 8) (p : Fin 128) : (dataOf x0 x1 x2 x3).table b p = BitVec.toNat (x0 (ix2 b p)) := by
  simp only [dataOf, ofNat_val]

variable (h0 : ∀ (b : Fin 8) (p : Fin 128), BitVec.toNat (x0 (ix2 b p)) < 1280) (h1 : Real' x1) (h2 : Real' x2) (h3 : Real' x3)
include h0 h1

/-- The reference's keys. -/
theorem key_at (h2 : Real' x2) (b : Fin 8) (n : Fin 16392) (j : Fin 1024) :
    Read.val_main_v24 x0 x1 x2 (ix3 b n j) = ((dataOf x0 x1 x2 x3).key b n j : EReal) := by
  pointwise [Read.val_main_v24, Read.val_main_v23, Read.val_main_v11, Read.val_main_v10]
  rw [Data.key]
  by_cases h : n.val < 16384
  · refine (dif_pos h).trans (Eq.trans ?_ (congrArg _ (if_pos h).symm))
    have hp : n.val / 128 < 128 := by omega
    refine (gather_page _ _ b ⟨n.val / 128, hp⟩ ⟨n.val % 128, Nat.mod_lt _ (by norm_num)⟩ j _ (h0 b ⟨n.val / 128, hp⟩) ?_).trans ?_
    · pointwise [Read.val_main_v21, Read.val_main_v20, Read.val_main_v19, Read.val_main_v18, Read.val_main_v17, Read.val_main_v16, Read.val_main_c, Read.val_main_c_2]
      exact word_page _ (h0 b ⟨n.val / 128, hp⟩)
    · pointwise [Read.val_main_v15, Read.val_main_v14]
      exact (pageK_at x0 x1 x2 x3 h2 _ _ _).trans
        (congrArg (fun w => (((dataOf x0 x1 x2 x3).pageK w (n.val % 128) j : ℝ) : EReal)) (table_at x0 x1 x2 x3 b ⟨n.val / 128, hp⟩).symm)
  · have hn := n.isLt
    refine (dif_neg h).trans (Eq.trans ?_ (congrArg _ ((if_neg h).trans (if_pos hn)).symm))
    rw [proj_at x0 x1 x2 x3 h1]
    exact congrArg (fun r => (((dataOf x0 x1 x2 x3).proj r (1536 + j.val) : ℝ) : EReal)) (by show 8192 + (b.val * 8 + (n.val - 16384)) = _; omega)

/-- The reference's values. -/
theorem val_at (h3 : Real' x3) (b : Fin 8) (n : Fin 16392) (j : Fin 1024) :
    Read.val_main_v35 x0 x1 x3 (ix3 b n j) = ((dataOf x0 x1 x2 x3).val b n j : EReal) := by
  pointwise [Read.val_main_v35, Read.val_main_v34, Read.val_main_v13, Read.val_main_v12]
  rw [Data.val]
  by_cases h : n.val < 16384
  · refine (dif_pos h).trans (Eq.trans ?_ (congrArg _ (if_pos h).symm))
    have hp : n.val / 128 < 128 := by omega
    refine (gather_page _ _ b ⟨n.val / 128, hp⟩ ⟨n.val % 128, Nat.mod_lt _ (by norm_num)⟩ j _ (h0 b ⟨n.val / 128, hp⟩) ?_).trans ?_
    · pointwise [Read.val_main_v32, Read.val_main_v31, Read.val_main_v30, Read.val_main_v29, Read.val_main_v28, Read.val_main_v27, Read.val_main_c_3, Read.val_main_c_4]
      exact word_page _ (h0 b ⟨n.val / 128, hp⟩)
    · pointwise [Read.val_main_v26, Read.val_main_v25]
      exact (pageV_at x0 x1 x2 x3 h3 _ _ _).trans
        (congrArg (fun w => (((dataOf x0 x1 x2 x3).pageV w (n.val % 128) j : ℝ) : EReal)) (table_at x0 x1 x2 x3 b ⟨n.val / 128, hp⟩).symm)
  · have hn := n.isLt
    refine (dif_neg h).trans (Eq.trans ?_ (congrArg _ ((if_neg h).trans (if_pos hn)).symm))
    rw [proj_at x0 x1 x2 x3 h1]
    exact congrArg (fun r => (((dataOf x0 x1 x2 x3).proj r (2560 + j.val) : ℝ) : EReal)) (by show 8192 + (b.val * 8 + (n.val - 16384)) = _; omega)

omit h0 h1 in
/-- The distance of a new query from a key. -/
theorem dist_at (q : Fin 8) (n : Fin 16392) : Read.val_main_v50 (F := Ideal) (ix2 q n) = (((16384 + q.val : ℕ) - n.val : ℝ) : EReal) := by
  pointwise [Read.val_main_v50, Read.val_main_v49, Read.val_main_v48, Read.val_main_v47, Read.val_main_v46, Read.val_main_v45, Read.val_main_v39,
    Read.val_main_v38, Read.val_main_v37, Read.val_main_v36, Read.val_main_c_5]
  have hn := n.isLt
  show ((((BitVec.ofNat 32 16384 + BitVec.ofNat 32 q.val - BitVec.ofNat 32 n.val).toInt : ℤ) : ℝ) : EReal) = _
  rw [← BitVec.ofNat_add, word_sub _ _ (by omega) (by omega)]
  push_cast
  rfl

omit h0 h1 in
/-- The slope of a head. -/
theorem slope_at (h : Fin 8) : Read.val_main_v59 (F := Ideal) (ix1 h) = (((2 : ℝ) ^ (-((h.val + 1 : ℕ) : ℝ)) : ℝ) : EReal) := by
  pointwise [Read.val_main_v59, Read.val_main_v58, Read.val_main_v57, Read.val_main_v56, Read.val_main_v55, Read.val_main_v54, Read.val_main_v53,
    Read.val_main_v52, Read.val_main_v51, Read.val_main_cst_7, Read.val_main_cst_8, Read.val_main_cst_9, Read.val_main_cst_10]
  rw [two_eq, neg_eight_eq, eight_eq]
  show Ideal.pow _ (Ideal.div (_ * (((1 : ℝ) : EReal) + (((BitVec.ofNat 32 h.val).toInt : ℝ) : EReal))) _) = _
  rw [word_int _ (by omega), ← EReal.coe_add, ← EReal.coe_mul, Ideal.div_coe (by norm_num), ← EReal.coe_mul]
  show ((Real.rpow 2 _ : ℝ) : EReal) = _
  refine congrArg (fun y => ((Real.rpow 2 y : ℝ) : EReal)) ?_
  push_cast
  ring

/-- The reference's masked scores. -/
theorem masked_at (h2 : Real' x2) (b h q : Fin 8) (c : Fin 2) (n : Fin 16392) :
    Read.val_main_v70 x0 x1 x2 (ix5 b h c q n) = (dataOf x0 x1 x2 x3).masked b (16 * h.val + 8 * c.val + q.val) n := by
  pointwise [Read.val_main_v70, Read.val_main_call0_v1, Read.val_main_call0_v2, Read.val_main_v69, Read.val_main_v68, Read.val_main_call0_v0,
    Read.val_main_cst_12, Read.val_main_cst_11, Read.val_main_v67, Read.val_main_v66, Read.val_main_v65, Read.val_main_v64, Read.val_main_v63,
    Read.val_main_v62, Read.val_main_v61, Read.val_main_v60, Read.val_main_v44, Read.val_main_v43, Read.val_main_v42, Read.val_main_v40,
    Read.val_main_v9, Read.val_main_v8, Read.val_main_cst_6]
  have e8 : (16 * h.val + 8 * c.val + q.val) % 8 = q := by omega
  have d8 : (16 * h.val + 8 * c.val + q.val) / 8 = 2 * h.val + c.val := by omega
  have d16 : (16 * h.val + 8 * c.val + q.val) / 16 = h.val := by omega
  rw [dist_at, slope_at, eighth_eq, Data.masked, Data.score, e8, d8, d16]
  simp only [key_at x0 x1 x2 x3 h0 h1 h2, proj_at x0 x1 x2 x3 h1, ← EReal.coe_mul, ← coe_sum, ← EReal.coe_sub]
  have hc : (0 : EReal) ≤ (((16384 + q.val : ℕ) - n.val : ℝ) : EReal) ↔ n.val ≤ 16384 + q.val := by
    rw [← EReal.coe_zero, EReal.coe_le_coe_iff, sub_nonneg, Nat.cast_le]
  simp only [hc]
  split_ifs with hn
  · congr 3
    refine Finset.sum_congr rfl fun d _ => ?_
    have e1 : 8192 + (b.val * 8 + q.val) = 8192 + 8 * b.val + q.val := by omega
    have e2 : h.val * 128 + c.val * 64 + d.val = 64 * (2 * h.val + c.val) + d.val := by omega
    simp only [e1, e2]
  · exact bot_eq

omit h0 h1 in
/-- The maximum the reference subtracts is the maximum over the keys. -/
theorem max_at_fold (b h q : Fin 8) (c : Fin 2) :
    Read.val_main_v73 x0 x1 x2 (ix4 b h c q) = max ⊥ (Finset.univ.fold max ⊥ fun n => Read.val_main_v70 x0 x1 x2 (ix5 b h c q n)) := by
  rw [Read.val_main_v73_apply, Read.val_main_v72_apply, Read.val_main_cst_14_apply, Read.val_main_v71]
  generalize Read.val_main_v70 x0 x1 x2 = y
  rw [reduce_max]
  show max (Ideal.ofBits .f32 0xFF800000#32) (Finset.univ.fold max (Ideal.ofBits .f32 0xFF800000#32) _) = _
  rw [bot_eq]
/-- The reference's normalised weights. -/
theorem weight_at (h2 : Real' x2) (b h q : Fin 8) (c : Fin 2) (n : Fin 16392) :
    Read.val_main_v81 x0 x1 x2 (ix5 b h c q n) =
      ((weight ((dataOf x0 x1 x2 x3).masked b (16 * h.val + 8 * c.val + q.val) n)
        / (dataOf x0 x1 x2 x3).total b (16 * h.val + 8 * c.val + q.val) 16392 : ℝ) : EReal) := by
  refine (soft_of (Read.val_main_v70 x0 x1 x2) (Read.val_main_v73 x0 x1 x2) b h c q n).trans ?_
  have hm := fun k : Fin 16392 => masked_at x0 x1 x2 x3 h0 h1 h2 b h q c k
  have ht := fun k : Fin 16392 => (dataOf x0 x1 x2 x3).masked_ne_top b (16 * h.val + 8 * c.val + q.val) k
  obtain ⟨μ, hμ⟩ := max_real ⊥ bot_ne_top (fun k : Fin 16392 => Read.val_main_v70 x0 x1 x2 (ix5 b h c q k))
    (fun k => by rw [hm]; exact ht k)
    (.inr ⟨⟨0, by norm_num⟩, by rw [hm, Data.masked, if_pos (Nat.zero_le _)]; exact EReal.coe_ne_bot _⟩)
  rw [max_at_fold, hμ]
  simp only [hm]
  have hl := Carried.step_one (m := ⊥) (x := 0) (X := 0) (.inl ⟨rfl, rfl, rfl⟩) _ ht μ
  rw [mul_zero, zero_add, zero_add, ← Finset.sum_range (fun k => weight ((dataOf x0 x1 x2 x3).masked b (16 * h.val + 8 * c.val + q.val) k))] at hl
  exact Carried.div (.inr ⟨μ, rfl, exp_shift _ (ht n) μ⟩) hl ((dataOf x0 x1 x2 x3).total_ne_zero _ _)

/-- The reference's mixed values before the norm. -/
theorem head_at (h2 : Real' x2) (h3 : Real' x3) (x4 x5 x6 x7 : (⟨S1x64, .f32⟩ : BufTy).Contents (Elt Ideal)) (lam : ℝ)
    (hl : Read.val_main_v7 x4 x5 x6 x7 ix0 = (lam : EReal)) (b q h : Fin 8) (e : Fin 128) :
    Read.val_main_v90 x0 x1 x2 x3 x4 x5 x6 x7 (ix4 b q h e) = ((dataOf x0 x1 x2 x3).head lam b h q e : EReal) := by
  refine (mix_of (Read.val_main_v81 x0 x1 x2) (Read.val_main_v35 x0 x1 x3) (Read.val_main_v7 x4 x5 x6 x7) b q h e).trans ?_
  rw [hl, Data.head_eq_sum, coe_sum, Finset.sum_range]
  refine Finset.sum_congr rfl fun n _ => ?_
  rw [val_at x0 x1 x2 x3 h0 h1 h3, weight_at x0 x1 x2 x3 h0 h1 h2, weight_at x0 x1 x2 x3 h0 h1 h2, ← EReal.coe_mul, ← EReal.coe_sub, ← EReal.coe_mul, mul_comm]
  have e1 : h.val * 128 + e.val = 128 * h.val + e.val := by omega
  simp only [e1]
  rfl

/-- The reference's result at an index. -/
theorem result_at (h2 : Real' x2) (h3 : Real' x3) (x4 x5 x6 x7 : (⟨S1x64, .f32⟩ : BufTy).Contents (Elt Ideal))
    (x8 : (⟨S1x128, .f32⟩ : BufTy).Contents (Elt Ideal)) (lam : ℝ)
    (hl : Read.val_main_v7 x4 x5 x6 x7 ix0 = (lam : EReal)) (b q h : Fin 8) (e : Fin 128) (r : Fin 64) (j : Fin 1024)
    (hr : r.val = 8 * b.val + q.val) (hj : j.val = 128 * h.val + e.val) :
    Read.val_main_v107 x0 x1 x2 x3 x4 x5 x6 x7 x8 (ix2 r j) =
      normed (fun k => ((dataOf x0 x1 x2 x3).head lam b h q k : EReal)) (fun k => x8 (ix2 (0 : Fin 1) k)) e := by
  have hi : Read.idx_main_v107 (ix2 r j) = ix4 b q h e := by
    funext a
    refine Fin.ext ?_
    match a with
    | ⟨0, _⟩ => show (r.val * 1024 + j.val) / 8192 = b.val; omega
    | ⟨1, _⟩ => show (r.val * 1024 + j.val) / 1024 % 8 = q.val; omega
    | ⟨2, _⟩ => show (r.val * 1024 + j.val) / 128 % 8 = h.val; omega
    | ⟨3, _⟩ => show (r.val * 1024 + j.val) % 128 = e.val; omega
  rw [Read.val_main_v107_apply, hi, norm_at]
  simp only [head_at x0 x1 x2 x3 h0 h1 h2 h3 x4 x5 x6 x7 lam hl]

end
/-- The weight of the second half, from the four vectors. -/
theorem lam_eq (x4 x5 x6 x7 : (⟨S1x64, .f32⟩ : BufTy).Contents (Elt Ideal)) : Read.val_main_v7 x4 x5 x6 x7 ix0 =
    Ideal.exp (∑ k : Fin 64, x4 (ix2 (0 : Fin 1) k) * x5 (ix2 (0 : Fin 1) k)) - Ideal.exp (∑ k : Fin 64, x6 (ix2 (0 : Fin 1) k) * x7 (ix2 (0 : Fin 1) k))
      + Ideal.ofBits .f32 0x3E4CCCCD#32 := by
  pointwise [Read.val_main_v7, Read.val_main_v6, Read.val_main_v5, Read.val_main_v4, Read.val_main_v3, Read.val_main_v2, Read.val_main_v1,
    Read.val_main_v0, Read.val_main_cst, Read.val_main_cst_0, Read.val_main_cst_1]
  simp only [Fin.sum_univ_one]

/-- It is a real number when the vectors are. -/
theorem lam_real (x4 x5 x6 x7 : S1x64.Idx → EReal) (h4 : Real' x4) (h5 : Real' x5) (h6 : Real' x6) (h7 : Real' x7) : ∃ lam : ℝ,
    Ideal.exp (∑ k : Fin 64, x4 (ix2 (0 : Fin 1) k) * x5 (ix2 (0 : Fin 1) k)) - Ideal.exp (∑ k : Fin 64, x6 (ix2 (0 : Fin 1) k) * x7 (ix2 (0 : Fin 1) k))
      + Ideal.ofBits .f32 0x3E4CCCCD#32 = (lam : EReal) := by
  have s : ∀ x y : S1x64.Idx → EReal, Real' x → Real' y → ∃ u : ℝ, ∑ k : Fin 64, x (ix2 (0 : Fin 1) k) * y (ix2 (0 : Fin 1) k) = (u : EReal) := fun x y hx hy =>
    ⟨∑ k : Fin 64, (x (ix2 (0 : Fin 1) k)).toReal * (y (ix2 (0 : Fin 1) k)).toReal, by
      rw [coe_sum]
      exact Finset.sum_congr rfl fun k _ => (congrArg₂ (· * ·) (hx _) (hy _)).trans (EReal.coe_mul _ _).symm⟩
  obtain ⟨u, hu⟩ := s x4 x5 h4 h5
  obtain ⟨v, hv⟩ := s x6 x7 h6 h7
  obtain ⟨r, hr⟩ := fifth_real
  exact ⟨Real.exp u - Real.exp v + r, by rw [hu, hv, hr]; rfl⟩

/-- A number whose absolute value is below infinity is real. -/
theorem real_of_finite (x : EReal) (h : FloatOps.cmpf (F := Ideal) (φ := .f32) .olt (FloatOps.absf (F := Ideal) (φ := .f32) x) (Ideal.ofBits .f32 0x7F800000#32) = 1#1) :
    x = (x.toReal : EReal) := by
  have top : Ideal.ofBits .f32 0x7F800000#32 = ⊤ := by simp [Ideal.ofBits, Ideal.ieee]
  rw [top] at h
  have lt : max x (-x) < ⊤ := by
    by_contra hn
    have e : FloatOps.cmpf (F := Ideal) (φ := .f32) .olt (max x (-x)) ⊤ = 0#1 := by
      show Ideal.cmp .olt (max x (-x)) ⊤ = 0#1
      simp [Ideal.cmp, hn]
    exact absurd (e.symm.trans h) (by decide)
  exact (EReal.coe_toReal (ne_top_of_lt (lt_of_le_of_lt (le_max_left _ _) lt))
    (fun e => absurd (lt_of_le_of_lt (le_max_right x (-x)) lt) (by rw [e]; simp))).symm

end Cert.AttSRefIdeal
end
-- ==== Proof.AttSValue.lean ====
/- The attention over the paged cache, over the extended reals: the running sums at every grid point, and the array the call leaves. -/
module

public import proofs.«01_k».proof.Proof.AttSState
public import proofs.«01_k».proof.Proof.AttSRef

@[expose] public section

set_option maxRecDepth 16384

noncomputable section

open Idealize.ShloMosaic Idealize.ShloMosaic.TcCoe Idealize.SL.Sem
open Idealize.ShloMosaic.Pipeline (Dat)

namespace Cert.AttSIdeal

open Cert.AttSIdeal Cert.AttSIdeal.Gen Cert.AttSMath
open Cert.AttSRefIdeal (Real' dataOf proj_at pageK_at pageV_at table_at lam_real lam_eq real_of_finite)

variable (m : (ℓ : Loc nD τ sig) → Buf (Elt Ideal) ℓ) (hO : Ok m) (c : Dev nD)

/-- The attention's data: the numbers in the table, the projection and the two caches. -/
abbrev data : Data := dataOf (m ((c : Thread nD τ).loc main_arg0)) (m ((c : Thread nD τ).loc main_arg1))
  (m ((c : Thread nD τ).loc main_arg2)) (m ((c : Thread nD τ).loc main_arg3))

/-- The table names pages of the cache, and the projection, the caches and the four mixing vectors hold real numbers. -/
structure Good : Prop where
  page : ∀ (b : Fin 8) (p : Fin 128), (show BitVec 32 from m ((c : Thread nD τ).loc main_arg0) (ix2 b p)).toNat < 1280
  proj : Real' (s := S8256x5632) (m ((c : Thread nD τ).loc main_arg1))
  keys : Real' (s := S4x1280x128x1024) (m ((c : Thread nD τ).loc main_arg2))
  vals : Real' (s := S4x1280x128x1024) (m ((c : Thread nD τ).loc main_arg3))
  lq1 : Real' (s := S1x64) (m ((c : Thread nD τ).loc main_arg4))
  lk1 : Real' (s := S1x64) (m ((c : Thread nD τ).loc main_arg5))
  lq2 : Real' (s := S1x64) (m ((c : Thread nD τ).loc main_arg6))
  lk2 : Real' (s := S1x64) (m ((c : Thread nD τ).loc main_arg7))

/-- What the reference computes from the arguments. -/
abbrev result : S64x1024.Idx → EReal := Cert.AttSRefIdeal.Read.val_main_v107 (F := Ideal) (m ((c : Thread nD τ).loc main_arg0))
  (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))

variable {m c} (G : Good m c) (t : Fin (cfgM m hO).N)
include G

/-- The six blocks of the projection hold the sequence's queries, new keys and new values. -/
theorem proj_data :
    (∀ i k, iblk m hO c 0 t (ix2 (i : Fin 8) (k : Fin 512)) = (((data m c).proj (8192 + 8 * (t.val / 128) + i) (512 + k) : ℝ) : EReal)) ∧
    (∀ i k, iblk m hO c 1 t (ix2 (i : Fin 8) (k : Fin 512)) = (((data m c).proj (8192 + 8 * (t.val / 128) + i) (1024 + k) : ℝ) : EReal)) ∧
    (∀ i k, iblk m hO c 2 t (ix2 (i : Fin 8) (k : Fin 512)) = (((data m c).proj (8192 + 8 * (t.val / 128) + i) (1536 + k) : ℝ) : EReal)) ∧
    (∀ i k, iblk m hO c 3 t (ix2 (i : Fin 8) (k : Fin 512)) = (((data m c).proj (8192 + 8 * (t.val / 128) + i) (1536 + (512 + k)) : ℝ) : EReal)) ∧
    (∀ i k, iblk m hO c 4 t (ix2 (i : Fin 8) (k : Fin 512)) = (((data m c).proj (8192 + 8 * (t.val / 128) + i) (2560 + k) : ℝ) : EReal)) ∧
    (∀ i k, iblk m hO c 5 t (ix2 (i : Fin 8) (k : Fin 512)) = (((data m c).proj (8192 + 8 * (t.val / 128) + i) (2560 + (512 + k)) : ℝ) : EReal)) := by
  have ht : t.val < 1024 := t.isLt
  have hr : ∀ i : Fin 8, 8192 + 8 * (t.val / 128) + i.val < 8256 := fun i => by omega
  have P := fun (i : Fin 8) (k : Fin 512) => proj_blocks m hO c t i k ⟨_, hr i⟩ rfl
  have e := fun (i : Fin 8) (j : Fin 5632) => proj_at (m ((c : Thread nD τ).loc main_arg0)) _ (m ((c : Thread nD τ).loc main_arg2))
    (m ((c : Thread nD τ).loc main_arg3)) G.proj ⟨_, hr i⟩ j
  exact ⟨fun i k => (P i k).1.trans (e i _), fun i k => (P i k).2.1.trans (e i _), fun i k => (P i k).2.2.1.trans (e i _),
    fun i k => (P i k).2.2.2.1.trans (e i _), fun i k => (P i k).2.2.2.2.1.trans (e i _), fun i k => (P i k).2.2.2.2.2.trans (e i _)⟩

/-- The page's two blocks hold the keys and the values that the point is about. -/
theorem page_data (j : Fin 128) (k : Fin 1024) :
    iblk m hO c 6 t (ix4 (0 : Fin 1) (0 : Fin 1) j k) = (((data m c).key (t.val / 128) (128 * (t.val % 128) + j) k : ℝ) : EReal) ∧
    iblk m hO c 7 t (ix4 (0 : Fin 1) (0 : Fin 1) j k) = (((data m c).val (t.val / 128) (128 * (t.val % 128) + j) k : ℝ) : EReal) := by
  have ht : t.val < 1024 := t.isLt
  obtain ⟨b, hb⟩ : ∃ b : Fin 8, b.val = t.val / 128 := ⟨⟨_, by omega⟩, rfl⟩
  obtain ⟨p, hp⟩ : ∃ p : Fin 128, p.val = t.val % 128 := ⟨⟨_, Nat.mod_lt _ (by norm_num)⟩, rfl⟩
  obtain rfl : c = 0 := Subsingleton.elim _ _
  obtain ⟨e6, e7⟩ := page_blocks m hO 0 t j k b p hb hp ⟨_, G.page b p⟩ rfl
  have hn : 128 * p.val + j.val < 16384 := by omega
  have hd : (128 * p.val + j.val) / 128 = p := by omega
  have hm : (128 * p.val + j.val) % 128 = j := by omega
  rw [← hb, ← hp, Data.key, Data.val, if_pos hn, if_pos hn, hd, hm, table_at]
  exact ⟨e6.trans (pageK_at (m (((0 : Dev nD) : Thread nD τ).loc main_arg0)) (m (((0 : Dev nD) : Thread nD τ).loc main_arg1)) _ (m (((0 : Dev nD) : Thread nD τ).loc main_arg3)) G.keys _ j k),
    e7.trans (pageV_at (m (((0 : Dev nD) : Thread nD τ).loc main_arg0)) (m (((0 : Dev nD) : Thread nD τ).loc main_arg1)) (m (((0 : Dev nD) : Thread nD τ).loc main_arg2)) _ G.vals _ j k)⟩

omit G in
/-- A page of values read as a matrix. -/
theorem page_value (x : Vec Ideal S1x1x128x1024 .f32) (j : Fin 128) (k : Fin 1024) : k0_pay40 x (ix2 j k) = x (ix4 (0 : Fin 1) (0 : Fin 1) j k) := by
  pointwise [k0_pay40]

/-- A page's step carries the sums from the keys before the page to the keys up to its end. -/
theorem page_step {q : Vec Ideal S128x1024 .bf16} {M L : Vec Ideal S1x128x128 .f32} {A : Vec Ideal S1x128x1024 .f32}
    (H : Holds (data m c) (t.val / 128) (128 * (t.val % 128)) q M L A) :
    Holds (data m c) (t.val / 128) (128 * (t.val % 128) + 128) q (k0_pay46 (k0_pay39 (grid0.coords t) q (iblk m hO c 6 t)) M)
      (k0_pay1 (k0_pay47 (k0_pay39 (grid0.coords t) q (iblk m hO c 6 t)) M L))
      (k0_pay45 (k0_pay39 (grid0.coords t) q (iblk m hO c 6 t)) (k0_pay40 (iblk m hO c 7 t)) M A) :=
  H.step (data m c) (by omega) _ _
    (fun R j => page_at (data m c) _ _ (Nat.mod_lt _ (by norm_num)) _ (at_point t).2 q H.q_at _ (fun j k => (page_data hO G t j k).1) R j)
    (fun j e => (page_value _ j e).trans (page_data hO G t j e).2)

/-- The running sums after a point: over the keys up to the page's end, and after a sequence's last point over all keys. -/
theorem holds_at (n : ℕ) : ∀ t : Fin (cfgM m hO).N, t.val = n →
    Holds (data m c) (t.val / 128) (if t.val % 128 = 127 then 16384 + 128 else 128 * (t.val % 128) + 128)
      (outsAt0 m hO c t.val t.isLt).2.1 (outsAt0 m hO c t.val t.isLt).2.2.1 (outsAt0 m hO c t.val t.isLt).2.2.2.1 (outsAt0 m hO c t.val t.isLt).2.2.2.2 := by
  induction n using Nat.strong_induction_on with
  | _ n ih =>
    intro t hn
    obtain ⟨p0, p1, p2, p3, p4, p5⟩ := proj_data hO G t
    by_cases h0 : t.val % 128 = 0
    · obtain ⟨e1, e2, e3, e4⟩ := state_first m hO c t h0
      rw [e1, e2, e3, e4, if_neg (by omega)]
      have H := holds_start (data m c) (t.val / 128) _ (diag_at (data m c) _ (iblk m hO c 0 t) (iblk m hO c 1 t) p0 p1)
      have H' : Holds (data m c) (t.val / 128) (128 * (t.val % 128)) _ _ _ _ := (by rw [h0] : 0 = 128 * (t.val % 128)) ▸ H
      exact page_step hO G t H'
    · have H := ih (t.val - 1) (by omega) ⟨t.val - 1, Nat.lt_of_le_of_lt (Nat.sub_le _ _) t.isLt⟩ rfl
      dsimp only at H
      rw [if_neg (by omega), show (t.val - 1) / 128 = t.val / 128 by omega, show 128 * ((t.val - 1) % 128) + 128 = 128 * (t.val % 128) by omega] at H
      have H' := page_step hO G t H
      by_cases h1 : t.val % 128 = 127
      · obtain ⟨e1, e2, e3, e4⟩ := state_last m hO c t h0 h1
        rw [e1, e2, e3, e4, if_pos h1]
        rw [show 128 * (t.val % 128) + 128 = 16384 by omega] at H'
        exact H'.step (data m c) le_rfl _ _ (new_at (data m c) _ _ H.q_at _ _ p2 p3) (newv_at (data m c) _ _ _ p4 p5)
      · obtain ⟨e1, e2, e3, e4⟩ := state_middle m hO c t h0 h1
        rw [e1, e2, e3, e4, if_neg h1]
        exact H'

/-- What a sequence's last point writes out is the reference's rows of that sequence. -/
theorem point (h1 : t.val % 128 = 127) (i : Fin 8) (j : Fin 1024) (r : Fin 64) (hr : r.val = 8 * (t.val / 128) + i) :
    (outsAt0 m hO c t.val t.isLt).1 (ix2 i j) = result m c (ix2 r j) := by
  have ht : t.val < 1024 := t.isLt
  obtain ⟨b8, b9, b10, b11, b12⟩ := whole_blocks m hO c t
  obtain ⟨lam, hl⟩ := lam_real _ _ _ _ G.lq1 G.lk1 G.lq2 G.lk2
  have H := holds_at hO G t.val t rfl
  rw [if_pos h1] at H
  have hmean := H.mean (data m c)
  have hlam : k0_pay16 (k0_pay14 (iblk m hO c 8 t) (iblk m hO c 9 t)) (k0_pay15 (iblk m hO c 10 t) (iblk m hO c 11 t)) (ix2 (0 : Fin 1) (0 : Fin 1)) = (lam : EReal) := by
    refine (lam_at _ _ _ _).trans (Eq.trans ?_ hl)
    simp only [b8, b9, b10, b11]
  rw [written m hO c t (by omega) h1 ⟨j.val / 128, by omega⟩ i ⟨j.val % 128, Nat.mod_lt _ (by norm_num)⟩ j (by show j.val = 128 * (j.val / 128) + j.val % 128; omega)]
  refine Eq.trans ?_ (Cert.AttSRefIdeal.result_at _ _ _ _ G.page G.proj G.keys G.vals _ _ _ _ _ lam ((lam_eq _ _ _ _).trans hl)
    ⟨t.val / 128, by omega⟩ i ⟨j.val / 128, by omega⟩ ⟨j.val % 128, Nat.mod_lt _ (by norm_num)⟩ r j hr
    (by show j.val = 128 * (j.val / 128) + j.val % 128; omega)).symm
  simp only [headOf, hmean, hlam, ← EReal.coe_mul, ← EReal.coe_sub]
  exact congrArg (fun g => normed _ g _) (funext b12)

omit G in
/-- The output's block is written back at every sequence's last point. -/
theorem last_flushes : ∀ b : Fin 8, Pipeline.Window.flushOf grid0 true cc0_transform_13 ⟨128 * b.val + 127, by rw [N_0]; omega⟩ = true := by decide +kernel

omit G in
/-- The blocks written back cover the result. -/
theorem covers : ((cfgM m hO).win 13).Covers := by
  refine ⟨fun a => (by decide : ∀ a : Fin 2, 0 < S8x1024.size a) a, fun β => ?_⟩
  have n0 : ((cfgM m hO).win 13).nblk ⟨0, Nat.zero_lt_two⟩ = 8 := show (64 + 8 - 1) / 8 = 8 by norm_num
  have n1 : ((cfgM m hO).win 13).nblk ⟨1, Nat.one_lt_two⟩ = 1 := show (1024 + 1024 - 1) / 1024 = 1 by norm_num
  obtain ⟨b, hb⟩ : ∃ b : Fin 8, b.val = (β ⟨0, Nat.zero_lt_two⟩).val :=
    ⟨⟨(β ⟨0, Nat.zero_lt_two⟩).val, (β ⟨0, Nat.zero_lt_two⟩).isLt.trans_eq n0⟩, rfl⟩
  have hb1 : (β ⟨1, Nat.one_lt_two⟩).val < 1 := (β ⟨1, Nat.one_lt_two⟩).isLt.trans_eq n1
  let t : Fin grid0.N := ⟨128 * b.val + 127, by rw [N_0]; omega⟩
  have e := (place t).2.2.2.2.2.2
  refine ⟨t, last_flushes b, fun a => ?_⟩
  match a with
  | ⟨0, _⟩ => exact ⟨(congrFun e 0).trans (by rw [← hb]; show (128 * b.val + 127) / 128 = b.val; omega), .inl rfl⟩
  | ⟨1, _⟩ => exact ⟨(congrFun e 1).trans (by show 0 = (β ⟨1, Nat.one_lt_two⟩).val; omega), .inl rfl⟩

/-- The array the call leaves is the reference's. -/
theorem final : (dats m hO 0 c).arrAt 13 (cfgM m hO).N = result m c := by
  refine (dats m hO 0 c).arrAt_eq_of_covers 13 _ (covers hO) fun t hf y => ?_
  have h1 : t.val % 128 = 127 := by
    by_contra h
    have h' : ¬cond0_1 (grid0.coords t) := fun k => h ((hcond0_1 t).mp k)
    by_cases h0 : cond0_0 (grid0.coords t)
    · exact absurd (hf.symm.trans (noFlush0_13_A m hO t h0 h')) (by decide)
    · exact absurd (hf.symm.trans (noFlush0_13_B m hO t h0 h')) (by decide)
  have ht : t.val < 1024 := t.isLt
  blk_simp
  rw [after0_13]
  obtain ⟨i, j, rfl⟩ : ∃ (i : Fin 8) (j : Fin 1024), y = ix2 i j := ⟨(show S8x1024.Idx from y) 0, (show S8x1024.Idx from y) 1, eq_ix2 (n0 := 8) (n1 := 1024) y⟩
  refine (point hO G t h1 i j ⟨8 * (t.val / 128) + i.val, by omega⟩ rfl).trans (congrArg _ ?_)
  have e := (place t).2.2.2.2.2.2
  blk_ext []
  · exact (at_axis (congrFun e 0) (show t.val / 128 * 8 + i.val = 8 * (t.val / 128) + i.val by omega)).symm
  · exact (at_zero (congrFun e 1)).symm

/-- After the run the result array is the reference's. -/
theorem post (r : PUnit × MemSt nD τ sig (Elt Ideal)) (h : Pipeline.FramePost (Pipeline.pin pcfgs fun _ => adm m hO) (dats m hO) 0 (V m) r) :
    r.2.mem ((c : Thread nD τ).loc main_v0) = result m c := ((h c).1 13).trans (final hO G)

omit G in
/-- The precondition makes the table and the numbers good. -/
theorem good (h : Pre_AttSIdeal_pages_named_finite m) (c : Dev nD) : Good m c := by
  obtain ⟨a0, a1, a2, a3, a4, a5, a6, a7⟩ := h c
  refine ⟨fun b p => ?_, fun i => real_of_finite _ ?_, fun i => real_of_finite _ ?_, fun i => real_of_finite _ ?_, fun i => real_of_finite _ ?_,
    fun i => real_of_finite _ ?_, fun i => real_of_finite _ ?_, fun i => real_of_finite _ ?_⟩
  · have := congrFun a0 (ix2 b p)
    exact word_lt _ this
  · exact congrFun a1 i
  · exact congrFun a2 i
  · exact congrFun a3 i
  · exact congrFun a4 i
  · exact congrFun a5 i
  · exact congrFun a6 i
  · exact congrFun a7 i

omit G in
/-- The stronger precondition contains the weaker one. -/
theorem weaker (h : Pre_AttSIdeal_pages_named_finite m) : Pre_AttSIdeal m := fun c => (h c).1

omit G in
/-- The run: every device's result array ends as the reference's. -/
theorem run (h : Pre_AttSIdeal_pages_named_finite m) (ρ : Dev nD → PrngReg) : θ_run (defs (F := Ideal)) (onTc (τ := τ) (main (F := Ideal))) ⟨m, fun _ => 0, ρ⟩
    (fun r => ∀ c : Dev nD, r.2.mem ((c.tc : Thread nD τ).loc main_v0) = result m c) :=
  (θ_run defs _ _).mono (fun r k c => post (ok_of_pre m (weaker h)) (good h c) r k) (run_main m ρ (ok_of_pre m (weaker h)))

end Cert.AttSIdeal
end
-- ==== Proof.FfnValue.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- Where each window's block sits at grid point `t`: the token block is `t / 11`, the block of hidden columns `t % 11`. -/
theorem place : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

/-- The gain window reads the gain as one row, the weight windows the weights, whose cast leaves every value as it is. -/
theorem entries (c : Dev nD) : V m c main_v0 = shapeCast S1x2048 (m ((c : Thread nD τ).loc main_arg1)) shapeCasts_S2048_S1x2048
    ∧ V m c main_v1 = (truncf (F := Ideal) (s := S2048x5632) .bf16 (m ((c : Thread nD τ).loc main_arg2)) bitsLt_bf16_f32 : FVec Ideal S2048x5632 .bf16)
    ∧ V m c main_v2 = (truncf (F := Ideal) (s := S2048x5632) .bf16 (m ((c : Thread nD τ).loc main_arg3)) bitsLt_bf16_f32 : FVec Ideal S2048x5632 .bf16)
    ∧ V m c main_v3 = (truncf (F := Ideal) (s := S5632x2048) .bf16 (m ((c : Thread nD τ).loc main_arg4)) bitsLt_bf16_f32 : FVec Ideal S5632x2048 .bf16) :=
  ⟨rfl, rfl, rfl, rfl⟩

/-- The elements of a point's blocks are the arrays': the token window's at row `r`, the weight windows' at the point's hidden columns. -/
theorem blocks_at (c : Dev nD) (t : Fin cfg0.N) (a : Fin 688) (r : Fin 8256) (hr : (r : ℕ) = t.val / 11 * 688 + a) :
    (∀ k : Fin 2048, iblk m c 0 t (ix2 a k) = m ((c : Thread nD τ).loc main_arg0) (ix2 r k))
    ∧ (∀ k : Fin 2048, iblk m c 1 t (ix2 0 k) = m ((c : Thread nD τ).loc main_arg1) (ix1 k))
    ∧ (∀ (k : Fin 2048) (j : Fin 512), iblk m c 2 t (ix2 k j) = m ((c : Thread nD τ).loc main_arg2) (ix2 k ⟨t.val % 11 * 512 + j, by omega⟩))
    ∧ (∀ (k : Fin 2048) (j : Fin 512), iblk m c 3 t (ix2 k j) = m ((c : Thread nD τ).loc main_arg3) (ix2 k ⟨t.val % 11 * 512 + j, by omega⟩))
    ∧ (∀ (j : Fin 512) (k : Fin 2048), iblk m c 4 t (ix2 j k) = m ((c : Thread nD τ).loc main_arg4) (ix2 ⟨t.val % 11 * 512 + j, by omega⟩ k)) := by
  obtain ⟨e0, e1, e2, e3⟩ := entries m c
  refine ⟨fun k => ?_, fun k => ?_, fun k j => ?_, fun k j => ?_, fun j k => ?_⟩
  · blk_ext [iblk, V, place t]
  · blk_simp [iblk]
    rw [e0]
    pointwise
    blk_ext [place t]
  · blk_simp [iblk]
    rw [e1]
    pointwise
    blk_ext [place t]
  · blk_simp [iblk]
    rw [e2]
    pointwise
    blk_ext [place t]
  · blk_simp [iblk]
    rw [e3]
    pointwise
    blk_ext [place t]

/-- The token block and the gain block of a point that is not the first of its row are those of the point before it. -/
theorem stays (c : Dev nD) (t t' : Fin cfg0.N) (h : t.val / 11 = t'.val / 11) : iblk m c 0 t = iblk m c 0 t' ∧ iblk m c 1 t = iblk m c 1 t' := by
  have h1 := place t
  have h2 := place t'
  rw [h] at h1
  exact ⟨funext fun y => by blk_ext [iblk, V, h1, h2], funext fun y => by blk_ext [iblk, V, h1, h2]⟩

/-- The token block of point `t`, normalised: what the first scratch holds while the point's row is worked on. -/
abbrev normed (c : Dev nD) (t : Fin cfg0.N) : FVec Ideal S688x2048 .bf16 := k0_pay1 (F := Ideal) (iblk m c 0 t) (iblk m c 1 t)

/-- What point `t` adds to the accumulator: the product of its hidden columns with their rows of the last weight. -/
abbrev part (c : Dev nD) (t : Fin cfg0.N) : FVec Ideal S688x2048 .f32 :=
  k0_pay3 (F := Ideal) (normed m c t) (iblk m c 2 t) (iblk m c 3 t) (k0_pay2 (F := Ideal)) (iblk m c 4 t)

/-- After every point the first scratch holds the normalised token block. -/
theorem scratch_eq (c : Dev nD) : ∀ (n : ℕ) (h : n < cfg0.N), (outsAt0 m c n h).2.1 = normed m c ⟨n, h⟩ := by
  intro n
  induction n with
  | zero =>
    intro h
    rw [outsAt0_A m c ⟨0, h⟩ rfl (by show ¬(0 % 11 = 10); decide)]
    dsimp only; frame_out
  | succ n ih =>
    intro h
    by_cases h0 : (n + 1) % 11 = 0
    · rw [outsAt0_A m c ⟨n + 1, h⟩ h0 (by dsimp only; omega)]
      dsimp only; frame_out
    · have e : (outsAt0 m c n (Nat.lt_of_succ_lt h)).2.1 = normed m c ⟨n + 1, h⟩ := by
        obtain ⟨e0, e1⟩ := stays m c ⟨n + 1, h⟩ ⟨n, Nat.lt_of_succ_lt h⟩ (by show (n + 1) / 11 = n / 11; omega)
        rw [ih (Nat.lt_of_succ_lt h), normed, normed, e0, e1]
      by_cases h1 : (n + 1) % 11 = 10
      · rw [outsAt0_C m c ⟨n + 1, h⟩ h0 h1]
        exact e
      · rw [outsAt0_B m c ⟨n + 1, h⟩ h0 h1]
        exact e

/-- The accumulator's update at one element: what was there and the point's part. -/
theorem update (x : FVec Ideal S688x2048 .bf16) (g u : FVec Ideal S2048x512 .bf16) (acc : FVec Ideal S688x2048 .f32) (d : FVec Ideal S512x2048 .bf16)
    (y : S688x2048.Idx) : k0_pay3 (F := Ideal) x g u acc d y = acc y + k0_pay3 (F := Ideal) x g u (k0_pay2 (F := Ideal)) d y := by
  pointwise [k0_pay3, k0_pay2]

/-- At the first point of a row the accumulator is the point's part. -/
theorem acc_first (c : Dev nD) (t : Fin cfg0.N) (h : t.val % 11 = 0) : (outsAt0 m c t.val t.isLt).2.2 = part m c t := by
  rw [outsAt0_A m c t h (by omega)]
  dsimp only; frame_out

/-- At every other point the accumulator is what the point before left and the point's part. -/
theorem acc_next (c : Dev nD) (t : Fin cfg0.N) (h : ¬t.val % 11 = 0) (y : S688x2048.Idx) : (outsAt0 m c t.val t.isLt).2.2 y
    = (outsAt0 m c (t.val - 1) (Nat.lt_of_le_of_lt (Nat.sub_le _ _) t.isLt)).2.2 y + part m c t y := by
  have e : (outsAt0 m c (t.val - 1) (Nat.lt_of_le_of_lt (Nat.sub_le _ _) t.isLt)).2.1 = normed m c t := by
    obtain ⟨e0, e1⟩ := stays m c t ⟨t.val - 1, Nat.lt_of_le_of_lt (Nat.sub_le _ _) t.isLt⟩ (by show t.val / 11 = (t.val - 1) / 11; omega)
    rw [scratch_eq m c, normed, normed, e0, e1]
  by_cases h1 : t.val % 11 = 10
  · rw [outsAt0_C m c t h h1]
    dsimp only; frame_out
    simp only [read_unread_whole]
    rw [e]
    exact update _ _ _ _ _ y
  · rw [outsAt0_B m c t h h1]
    dsimp only; frame_out
    simp only [read_unread_whole]
    rw [e]
    exact update _ _ _ _ _ y

/-- One element of a point's part: the reference's hidden row, over the point's hidden columns, times the last weight. -/
theorem part_at (c : Dev nD) (t : Fin cfg0.N) (a : Fin 688) (b : Fin 2048) (r : Fin 8256) (hr : (r : ℕ) = t.val / 11 * 688 + a) :
    part m c t (ix2 a b) = ∑ j : Fin 512, Cert.FfnRefIdeal.Read.val_main_v16 (F := Ideal) (m ((c : Thread nD τ).loc main_arg0)) (m ((c : Thread nD τ).loc main_arg1)) (m ((c : Thread nD τ).loc main_arg2)) (m ((c : Thread nD τ).loc main_arg3)) (ix2 r ⟨t.val % 11 * 512 + j, by omega⟩)
      * m ((c : Thread nD τ).loc main_arg4) (ix2 ⟨t.val % 11 * 512 + j, by omega⟩ b) := by
  obtain ⟨h0, h1, h2, h3, h4⟩ := blocks_at m c t a r hr
  pointwise [part, normed, k0_pay3, k0_pay2, k0_pay1, Cert.FfnRefIdeal.Read.val_main_v0, Cert.FfnRefIdeal.Read.val_main_v1, Cert.FfnRefIdeal.Read.val_main_v2, Cert.FfnRefIdeal.Read.val_main_v3, Cert.FfnRefIdeal.Read.val_main_v4, Cert.FfnRefIdeal.Read.val_main_v5, Cert.FfnRefIdeal.Read.val_main_v6, Cert.FfnRefIdeal.Read.val_main_v7, Cert.FfnRefIdeal.Read.val_main_v8, Cert.FfnRefIdeal.Read.val_main_v9, Cert.FfnRefIdeal.Read.val_main_v10, Cert.FfnRefIdeal.Read.val_main_v11, Cert.FfnRefIdeal.Read.val_main_v12, Cert.FfnRefIdeal.Read.val_main_v13, Cert.FfnRefIdeal.Read.val_main_v14, Cert.FfnRefIdeal.Read.val_main_v15, Cert.FfnRefIdeal.Read.val_main_v16, Cert.FfnRefIdeal.Read.val_main_cst, Cert.FfnRefIdeal.Read.val_main_cst_0, Cert.FfnRefIdeal.Read.val_main_cst_1, Cert.FfnRefIdeal.Read.val_main_call0_v0, Cert.FfnRefIdeal.Read.val_main_call0_v1, Cert.FfnRefIdeal.Read.val_main_call0_v2, Cert.FfnRefIdeal.Read.val_main_call0_v3, Cert.FfnRefIdeal.Read.val_main_call0_v4, Cert.FfnRefIdeal.Read.val_main_call0_v5, Cert.FfnRefIdeal.Read.val_main_call0_cst, Cert.FfnRefIdeal.Read.val_main_call0_cst_0]
  simp only [h0, h1, h2, h3, h4, Ideal.logistic]

/-- The array after the run is the reference's result over the argument arrays. -/
theorem final (c : Dev nD) : (dats m 0 c).arrAt 5 (cfgs 0).N
    = Cert.FfnRefIdeal.Read.val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have h1 : t.val % 11 = 10 := (flush0_5 t).mp hf
  obtain ⟨a, b, rfl⟩ : ∃ (a : Fin 688) (b : Fin 2048), y = ix2 a b := ⟨y 0, y 1, eq_ix2 (n0 := 688) (n1 := 2048) y⟩
  have hN : t.val < 132 := lt_of_lt_of_eq t.isLt N_0
  have ho : (outsAt0 m c t.val t.isLt).1 = k0_pay4 (F := Ideal) (iblk m c 0 t) (outsAt0 m c t.val t.isLt).2.2 := by
    rw [outsAt0_C m c t (by omega) h1]
    dsimp only; frame_out
  obtain ⟨r, hr⟩ : ∃ r : Fin 8256, (r : ℕ) = t.val / 11 * 688 + a := ⟨⟨t.val / 11 * 688 + a, by omega⟩, rfl⟩
  have ei : (((cfg0.win 5).blk t).view.emb (ix2 a b)) = ix2 r b := by blk_ext [place t]
  have hs : (outsAt0 m c t.val t.isLt).2.2 (ix2 a b) = Cert.FfnRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
    rw [Pipeline.eq_sum_fin_of_reset_step_apply_of_flush (fun n h => (outsAt0 m c n h).2.2) 11 (fun _ => 0) (part m c)
      (fun t h i => by rw [acc_first m c t h, zero_add]) (fun t h i => acc_next m c t h i) t h1 (ix2 a b), zero_add]
    pointwise [Cert.FfnRefIdeal.Read.val_main_v17]
    refine (Finset.sum_congr rfl fun (s : Fin 11) _ => part_at m c ⟨11 * (t.val / 11) + s, Pipeline.run_point_lt_of_flush t h1 s⟩ a b r
      (by dsimp only; omega)).trans (Fin.sum_mul_add_congr fun s k hl => ?_)
    have e : (⟨(11 * (t.val / 11) + s) % 11 * 512 + k, by omega⟩ : Fin 5632) = ⟨s * 512 + k, hl⟩ := Fin.ext (by dsimp only; omega)
    rw [e]
  rw [after0_5, ho]
  refine Eq.trans ?_ (congrArg _ ei.symm)
  pointwise [k0_pay4, Cert.FfnRefIdeal.Read.val_main_v20, Cert.FfnRefIdeal.Read.val_main_v19, Cert.FfnRefIdeal.Read.val_main_v18, Cert.FfnRefIdeal.Read.val_main_cst_2]
  rw [hs, (blocks_at m c t a r hr).1]

end Cert.FfnIdeal.Value

end
-- ==== Proof.ProjValue.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Where each window's block sits at grid point `t`: the token block is `t / 5`, the column block `t % 5`. -/
theorem place : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- The token block of a point that is not the first of its row is the token block of the point before it. -/
theorem tokens_stay (c : Dev nD) (t t' : Fin cfg0.N) (h : t.val / 5 = t'.val / 5) : iblk m c 0 t = iblk m c 0 t' := by
  funext y
  have h1 := place t
  have h2 := place t'
  rw [h] at h1
  blk_ext [iblk, V, h1, h2]

/-- The gain's block is the same at every point. -/
theorem gain_stays (c : Dev nD) (t t' : Fin cfg0.N) : iblk m c 1 t = iblk m c 1 t' := by
  funext y
  blk_ext [iblk, V, place t, place t']

/-- After every point the output block is the normalised token block times the point's weight block, and the scratch holds
    the normalised token block. -/
theorem outs_eq (c : Dev nD) : ∀ (n : ℕ) (h : n < cfg0.N), outsAt0 m c n h
    = (k0_pay2 (k0_pay1 (F := Ideal) (iblk m c 0 ⟨n, h⟩) (iblk m c 1 ⟨n, h⟩)) (iblk m c 2 ⟨n, h⟩), k0_pay1 (F := Ideal) (iblk m c 0 ⟨n, h⟩) (iblk m c 1 ⟨n, h⟩)) := by
  intro n
  induction n with
  | zero =>
    intro h
    rw [outsAt0_A m c ⟨0, h⟩ rfl]
    refine Prod.ext ?_ ?_ <;> (dsimp only; frame_out)
  | succ n ih =>
    intro h
    by_cases h0 : (n + 1) % 5 = 0
    · rw [outsAt0_A m c ⟨n + 1, h⟩ h0]
      refine Prod.ext ?_ ?_ <;> (dsimp only; frame_out)
    · rw [outsAt0_B m c ⟨n + 1, h⟩ h0]
      have e : (outsAt0 m c n (Nat.lt_of_succ_lt h)).2 = k0_pay1 (F := Ideal) (iblk m c 0 ⟨n + 1, h⟩) (iblk m c 1 ⟨n + 1, h⟩) := by
        rw [ih (Nat.lt_of_succ_lt h), tokens_stay m c ⟨n + 1, h⟩ ⟨n, Nat.lt_of_succ_lt h⟩ (by show (n + 1) / 5 = n / 5; omega),
          gain_stays m c ⟨n + 1, h⟩ ⟨n, Nat.lt_of_succ_lt h⟩]
      refine Prod.ext ?_ ?_
      · dsimp only; frame_out
        exact congrArg (fun x => k0_pay2 (F := Ideal) x (iblk m c 2 ⟨n + 1, h⟩)) ((Memref.IsWhole.read_unread _ _).trans e)
      · exact e

/-- The weight window reads the padded weights; the kernel's cast of them leaves every value as it is. -/
theorem weights_entry (c : Dev nD) : V m c main_v1 = (truncf (F := Ideal) (s := S2048x5760) .bf16 (pad (s := S2048x5640) S2048x5760 ![0, 0] ![0, 120] ![0, 0] (m ((c : Thread nD τ).loc main_arg2))
    (sitofp (F := Ideal) .f32 (constantI S_ 32 0#32)) pads_S2048x5640_S2048x5760_000_01200 h_S_) bitsLt_bf16_f32 : FVec Ideal S2048x5760 .bf16) := rfl

/-- The gain window reads the gain as one row. -/
theorem gain_entry (c : Dev nD) : V m c main_v2 = shapeCast S1x2048 (m ((c : Thread nD τ).loc main_arg1)) shapeCasts_S2048_S1x2048 := rfl

/-- A token block's element is the token array's. -/
theorem tokens_at (c : Dev nD) (t : Fin cfg0.N) (a : Fin 688) (r : Fin 8256) (hr : (r : ℕ) = t.val / 5 * 688 + a) (k : Fin 2048) :
    iblk m c 0 t (ix2 a k) = m ((c : Thread nD τ).loc main_arg0) (ix2 r k) := by
  blk_ext [iblk, V, place t]

/-- A gain block's element is the gain's. -/
theorem gain_at (c : Dev nD) (t : Fin cfg0.N) (k : Fin 2048) :
    iblk m c 1 t (ix2 0 k) = m ((c : Thread nD τ).loc main_arg1) (ix1 k) := by
  blk_simp [iblk]
  rw [gain_entry m c]
  pointwise
  blk_ext [place t]

/-- A weight block's element is the padded weights'. -/
theorem weights_at (c : Dev nD) (t : Fin cfg0.N) (b : Fin 1152) (q : Fin 5760) (hq : (q : ℕ) = t.val % 5 * 1152 + b) (k : Fin 2048) :
    iblk m c 2 t (ix2 k b) = Cert.ProjRefIdeal.Read.val_main_v13 (F := Ideal) (m ((c : Thread nD τ).loc main_arg2)) (ix2 k q) := by
  refine Eq.trans (b := V m c main_v1 (ix2 k q)) ?_ ?_
  · blk_ext [iblk, place t]
  · rw [weights_entry m c]
    rfl

/-- One element of a point's output block is the reference's at the element's place in the array. -/
theorem point (c : Dev nD) (t : Fin cfg0.N) (a : Fin 688) (b : Fin 1152) (r : Fin 8256) (q : Fin 5760)
    (hr : (r : ℕ) = t.val / 5 * 688 + a) (hq : (q : ℕ) = t.val % 5 * 1152 + b) :
    k0_pay2 (k0_pay1 (F := Ideal) (iblk m c 0 t) (iblk m c 1 t)) (iblk m c 2 t) (ix2 a b)
      = Cert.ProjRefIdeal.Read.val_main_v14 (F := Ideal) (m ((c : Thread nD τ).loc main_arg0)) (m ((c : Thread nD τ).loc main_arg1))
        (m ((c : Thread nD τ).loc main_arg2)) (ix2 r q) := by
  pointwise [k0_pay2, k0_pay1, Cert.ProjRefIdeal.Read.val_main_v0, Cert.ProjRefIdeal.Read.val_main_v1, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9, Cert.ProjRefIdeal.Read.val_main_v10, Cert.ProjRefIdeal.Read.val_main_v11, Cert.ProjRefIdeal.Read.val_main_v12, Cert.ProjRefIdeal.Read.val_main_v14, Cert.ProjRefIdeal.Read.val_main_cst, Cert.ProjRefIdeal.Read.val_main_cst_0, Cert.ProjRefIdeal.Read.val_main_cst_1]
  simp only [tokens_at m c t a r hr, gain_at m c t, weights_at m c t b q hq]

/-- The array after the run is the reference's result over the argument arrays. -/
theorem final (c : Dev nD) : (dats m 0 c).arrAt 3 (cfgs 0).N
    = Cert.ProjRefIdeal.Read.val_main_v14 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, outs_eq m c]
  obtain ⟨a, b, rfl⟩ : ∃ (a : Fin 688) (b : Fin 1152), y = ix2 a b := ⟨y 0, y 1, eq_ix2 (n0 := 688) (n1 := 1152) y⟩
  have hN : t.val < 60 := lt_of_lt_of_eq t.isLt N_0
  refine (point m c t a b ⟨t.val / 5 * 688 + a, by omega⟩ ⟨t.val % 5 * 1152 + b, by omega⟩ rfl rfl).trans (congrArg _ ?_)
  blk_ext [place t]

end Cert.ProjIdeal.Value

end
-- ==== Proof.OutValue.lean ====
module

public import proofs.«01_k».proof.Proof.Gen.OutIdeal.Value
public import proofs.«01_k».proof.Proof.Gen.OutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- Where each window's block sits at grid point `t`: the row windows move with `t`, the weight window never moves. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- A sum over 2048 places is the sum over the first 512, the next 1024 and the last 512. -/
theorem sum_three (f : Fin 2048 → EReal) : ∑ k, f k
    = ∑ x : Fin 512, f ⟨x, by omega⟩ + (∑ x : Fin 1024, f ⟨512 + x, by omega⟩ + ∑ x : Fin 512, f ⟨1536 + x, by omega⟩) := by
  rw [Fin.sum_univ_add (a := 1536) (b := 512) f, Fin.sum_univ_add (a := 512) (b := 1024), add_assoc]
  rfl

/-- The array after the run is the reference's result over the argument arrays. -/
theorem final (c : Dev nD) : (dats m 0 c).arrAt 5 (cfgs 0).N
    = Cert.OutRefIdeal.Read.val_main_v2 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay1, Cert.OutRefIdeal.Read.val_main_v2, Cert.OutRefIdeal.Read.val_main_v1, Cert.OutRefIdeal.Read.val_main_v0]
  rw [sum_three]
  simp only [← add_assoc]
  have h1 : ∀ x : Fin 1024, ¬ (512 + (x : ℕ) < 512) := fun x => by omega
  have h2 : ∀ x : Fin 512, ¬ (1536 + (x : ℕ) < 512) := fun x => by omega
  have h3 : ∀ x : Fin 1024, 512 + (x : ℕ) - 512 < 1024 := fun x => by omega
  have h4 : ∀ x : Fin 512, ¬ (1536 + (x : ℕ) - 512 < 1024) := fun x => by omega
  simp only [Fin.is_lt, dif_pos, dif_neg, h1, h2, h3, h4, not_false_eq_true]
  blk_point [iblk, V, place t]

end Cert.OutIdeal.Value

end
-- ==== Proof.PleValue.lean ====
module

public import proofs.«01_k».proof.Proof.Gen.PleIdeal.Value
public import proofs.«01_k».proof.Proof.Gen.PleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen

variable (m : (ℓ : Loc nD τ sig) → Buf (Elt Ideal) ℓ)

/-- Where each window's block sits at grid point `t`: the token windows move with `t`, the weight and gain windows never move. -/
theorem place : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, _)

/-- The gain windows read the gains as one row each, the weight windows the weights, whose cast leaves every value as it is. -/
theorem entries (c : Dev nD) : V m c main_v0 = shapeCast S1x2048 (m ((c : Thread nD τ).loc main_arg1)) shapeCasts_S2048_S1x2048
    ∧ V m c main_v1 = (truncf (F := Ideal) (s := S2048x2048) .bf16 (m ((c : Thread nD τ).loc main_arg2)) bitsLt_bf16_f32 : FVec Ideal S2048x2048 .bf16)
    ∧ V m c main_v2 = (truncf (F := Ideal) (s := S256x2048) .bf16 (m ((c : Thread nD τ).loc main_arg4)) bitsLt_bf16_f32 : FVec Ideal S256x2048 .bf16)
    ∧ V m c main_v3 = shapeCast S1x2048 (m ((c : Thread nD τ).loc main_arg5)) shapeCasts_S2048_S1x2048 := ⟨rfl, rfl, rfl, rfl⟩

/-- The elements of a point's blocks are the arrays': the token windows' at row `r`, the others' at their own place. -/
theorem blocks_at (c : Dev nD) (t : Fin cfg0.N) (a : Fin 688) (r : Fin 8256) (hr : (r : ℕ) = t.val * 688 + a) :
    (∀ k : Fin 2048, iblk m c 0 t (ix2 a k) = m ((c : Thread nD τ).loc main_arg0) (ix2 r k))
    ∧ (∀ k : Fin 2048, iblk m c 1 t (ix2 0 k) = m ((c : Thread nD τ).loc main_arg1) (ix1 k))
    ∧ (∀ k j : Fin 2048, iblk m c 2 t (ix2 k j) = m ((c : Thread nD τ).loc main_arg2) (ix2 k j))
    ∧ (∀ k : Fin 256, iblk m c 3 t (ix2 a k) = m ((c : Thread nD τ).loc main_arg3) (ix2 r k))
    ∧ (∀ (k : Fin 256) (j : Fin 2048), iblk m c 4 t (ix2 k j) = m ((c : Thread nD τ).loc main_arg4) (ix2 k j))
    ∧ (∀ k : Fin 2048, iblk m c 5 t (ix2 0 k) = m ((c : Thread nD τ).loc main_arg5) (ix1 k)) := by
  obtain ⟨e0, e1, e2, e3⟩ := entries m c
  refine ⟨fun k => ?_, fun k => ?_, fun k j => ?_, fun k => ?_, fun k j => ?_, fun k => ?_⟩
  · blk_ext [iblk, V, place t]
  · blk_simp [iblk]
    rw [e0]
    pointwise
    blk_ext [place t]
  · blk_simp [iblk]
    rw [e1]
    pointwise
    blk_ext [place t]
  · blk_ext [iblk, V, place t]
  · blk_simp [iblk]
    rw [e2]
    pointwise
    blk_ext [place t]
  · blk_simp [iblk]
    rw [e3]
    pointwise
    blk_ext [place t]

/-- One element of a point's output block is the reference's at the element's place in the array. -/
theorem point (c : Dev nD) (t : Fin cfg0.N) (a : Fin 688) (b : Fin 2048) (r : Fin 8256) (hr : (r : ℕ) = t.val * 688 + a) :
    k0_pay1 (F := Ideal) (k0_pay2 (iblk m c 5 t)) (k0_pay3 (iblk m c 0 t) (iblk m c 1 t) (iblk m c 2 t) (iblk m c 3 t) (iblk m c 4 t)) (ix2 a b)
      = Cert.PleRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 r b) := by
  obtain ⟨h0, h1, h2, h3, h4, h5⟩ := blocks_at m c t a r hr
  pointwise [k0_pay1, k0_pay2, k0_pay3, Cert.PleRefIdeal.Read.val_main_v0, Cert.PleRefIdeal.Read.val_main_v1, Cert.PleRefIdeal.Read.val_main_v2, Cert.PleRefIdeal.Read.val_main_v3, Cert.PleRefIdeal.Read.val_main_v4, Cert.PleRefIdeal.Read.val_main_v5, Cert.PleRefIdeal.Read.val_main_v6, Cert.PleRefIdeal.Read.val_main_v7, Cert.PleRefIdeal.Read.val_main_v8, Cert.PleRefIdeal.Read.val_main_v9, Cert.PleRefIdeal.Read.val_main_v10, Cert.PleRefIdeal.Read.val_main_v11, Cert.PleRefIdeal.Read.val_main_v12, Cert.PleRefIdeal.Read.val_main_v13, Cert.PleRefIdeal.Read.val_main_v14, Cert.PleRefIdeal.Read.val_main_v15, Cert.PleRefIdeal.Read.val_main_v16, Cert.PleRefIdeal.Read.val_main_v17, Cert.PleRefIdeal.Read.val_main_v18, Cert.PleRefIdeal.Read.val_main_v19, Cert.PleRefIdeal.Read.val_main_v20, Cert.PleRefIdeal.Read.val_main_v21, Cert.PleRefIdeal.Read.val_main_v22, Cert.PleRefIdeal.Read.val_main_v23, Cert.PleRefIdeal.Read.val_main_v24, Cert.PleRefIdeal.Read.val_main_v25, Cert.PleRefIdeal.Read.val_main_v26, Cert.PleRefIdeal.Read.val_main_v27, Cert.PleRefIdeal.Read.val_main_v28, Cert.PleRefIdeal.Read.val_main_v29, Cert.PleRefIdeal.Read.val_main_v30, Cert.PleRefIdeal.Read.val_main_v31, Cert.PleRefIdeal.Read.val_main_v32, Cert.PleRefIdeal.Read.val_main_v33, Cert.PleRefIdeal.Read.val_main_v34, Cert.PleRefIdeal.Read.val_main_v35, Cert.PleRefIdeal.Read.val_main_cst, Cert.PleRefIdeal.Read.val_main_cst_0, Cert.PleRefIdeal.Read.val_main_cst_1, Cert.PleRefIdeal.Read.val_main_cst_2, Cert.PleRefIdeal.Read.val_main_cst_3, Cert.PleRefIdeal.Read.val_main_cst_4, Cert.PleRefIdeal.Read.val_main_cst_5, Cert.PleRefIdeal.Read.val_main_cst_6]
  simp only [h0, h1, h2, h3, h4, h5, Ideal.logistic]

/-- The array after the run is the reference's result over the argument arrays. -/
theorem final (c : Dev nD) : (dats m 0 c).arrAt 6 (cfgs 0).N
    = Cert.PleRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]; frame_out
  obtain ⟨a, b, rfl⟩ : ∃ (a : Fin 688) (b : Fin 2048), y = ix2 a b := ⟨y 0, y 1, eq_ix2 (n0 := 688) (n1 := 2048) y⟩
  have hN : t.val < 12 := lt_of_lt_of_eq t.isLt N_0
  refine (point m c t a b ⟨t.val * 688 + a, by omega⟩ rfl).trans (congrArg _ ?_)
  blk_ext [place t]

end Cert.PleIdeal.Value

end
-- ==== Proof.GateValue.lean ====
module

public import proofs.«01_k».proof.Proof.Gen.GateIdeal.Value
public import proofs.«01_k».proof.Proof.Gen.GateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen
open Cert.GateRefIdeal.Read

variable (m : (ℓ : Loc nD τ sig) → Buf (Elt Ideal) ℓ)

/-- The reference's result over the argument arrays. -/
abbrev result (c : Dev nD) : S8256x2048.Idx → EReal :=
  val_main_v22 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The token windows and the output move with the grid point, the weight and gain windows never move. -/
theorem place : ∀ t : Fin cfg0.N, win0_0.index t = ![t.val, 0] ∧ win0_1.index t = ![0, 0] ∧ win0_2.index t = ![0, 0]
    ∧ win0_3.index t = ![t.val, 0] ∧ win0_4.index t = ![0, 0] ∧ win0_6.index t = ![t.val, 0] :=
  (by decide +kernel : ∀ t : Fin grid0.N, _)

/-- One element of a point's output block is the reference's at the element's place in the array: no block is read elsewhere than there,
    and the cast of a weight leaves every value as it is. -/
theorem point (c : Dev nD) (t : Fin cfg0.N) (a : Fin 688) (b : Fin 2048) (r : Fin 8256) (hr : (r : ℕ) = t.val * 688 + a) :
    k0_pay1 (F := Ideal) (iblk m c 0 t) (iblk m c 1 t) (iblk m c 2 t) (iblk m c 3 t) (iblk m c 4 t) (ix2 a b) = result m c (ix2 r b) := by
  have tokens (k : Fin 2048) : iblk m c 0 t (ix2 a k) = m ((c : Thread nD τ).loc main_arg0) (ix2 r k) := by
    blk_ext [iblk, V, place t]
  have embeds (k : Fin 256) : iblk m c 3 t (ix2 a k) = m ((c : Thread nD τ).loc main_arg3) (ix2 r k) := by
    blk_ext [iblk, V, place t]
  have gain (k : Fin 2048) : iblk m c 1 t (ix2 0 k) = m ((c : Thread nD τ).loc main_arg1) (ix1 k) := by
    blk_simp [iblk]
    rw [show V m c main_v0 = shapeCast S1x2048 (m ((c : Thread nD τ).loc main_arg1)) shapeCasts_S2048_S1x2048 from rfl]
    pointwise
    blk_ext [place t]
  have gate (k j : Fin 2048) : iblk m c 2 t (ix2 k j) = m ((c : Thread nD τ).loc main_arg2) (ix2 k j) := by
    blk_simp [iblk]
    rw [show V m c main_v1 = (truncf (F := Ideal) (s := S2048x2048) .bf16 (m ((c : Thread nD τ).loc main_arg2)) bitsLt_bf16_f32 : FVec Ideal S2048x2048 .bf16) from rfl]
    pointwise
    blk_ext [place t]
  have weight (k : Fin 256) (j : Fin 2048) : iblk m c 4 t (ix2 k j) = m ((c : Thread nD τ).loc main_arg4) (ix2 k j) := by
    blk_simp [iblk]
    rw [show V m c main_v2 = (truncf (F := Ideal) (s := S256x2048) .bf16 (m ((c : Thread nD τ).loc main_arg4)) bitsLt_bf16_f32 : FVec Ideal S256x2048 .bf16) from rfl]
    pointwise
    blk_ext [place t]
  pointwise [result, k0_pay1, val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_v20, val_main_v21, val_main_v22, val_main_cst, val_main_cst_0, val_main_cst_1, val_main_cst_2, val_main_cst_3]
  simp only [tokens, embeds, gain, gate, weight, Ideal.logistic]

/-- The array after the run is the reference's result over the argument arrays. -/
theorem final (c : Dev nD) : (dats m 0 c).arrAt 6 (cfgs 0).N = result m c := by
  refine (dats m 0 c).arrAt_eq_of_covers 6 _ (by decide +kernel) fun t _ y => ?_
  blk_simp
  rw [after0_6]; frame_out
  obtain ⟨a, b, rfl⟩ : ∃ (a : Fin 688) (b : Fin 2048), y = ix2 a b := ⟨y 0, y 1, eq_ix2 (n0 := 688) (n1 := 2048) y⟩
  have hN : t.val < 12 := lt_of_lt_of_eq t.isLt N_0
  refine (point m c t a b ⟨t.val * 688 + a, by omega⟩ rfl).trans (congrArg _ ?_)
  blk_ext [place t]

end Cert.GateIdeal.Value

end
-- ==== Proof.ConvSValue.lean ====
/- The convolution's last 8 rows that the DeltaNet call leaves for the new rows, equal to the reference's. -/
module

public import proofs.«01_k».proof.Proof.Gen.ConvS.Frame
public import proofs.«01_k».proof.Proof.Gen.ConvSIdeal.Value
public import proofs.«01_k».proof.Proof.Gen.ConvSRefIdeal.Run
public import proofs.«01_k».proof.Proof.Gen.ConvSRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvSIdeal.Value

open Cert.ConvSIdeal Cert.ConvSIdeal.Gen
open Cert.ConvSRefIdeal.Read

variable (m : (ℓ : Loc nD τ sig) → Buf (Elt Ideal) ℓ)

/-- The columns of the convolution's input in the projection: row `r`, column `j` of the 1536. -/
def cell (c : Dev nD) (r j : ℕ) : EReal := m ((c : Thread nD τ).loc main_arg0) (ix2 (Fin.ofNat 8256 r) (Fin.ofNat 5760 (3584 + j)))

/-- The reference's result over the argument arrays. -/
abbrev result (c : Dev nD) : S8x8x1536.Idx → EReal :=
  val_main_v3 (F := Ideal) (m ((c : Thread nD τ).loc main_arg0)) (m ((c : Thread nD τ).loc main_arg1))

/-- One element of the reference's result is an element of the convolution's input columns. -/
theorem result_at (c : Dev nD) (q i : Fin 8) (j : Fin 1536) : result m c (ix3 q i j) = cell m c (8192 + q.val * 8 + i) j := by
  rw [result, val_main_v3_apply, val_main_v2]
  refine (concatenate_pair_apply_right (t := Cert.ConvSRefIdeal.S8x11x1536) (s₁ := Cert.ConvSRefIdeal.S8x3x1536) (s₂ := Cert.ConvSRefIdeal.S8x8x1536) 1
    _ _ _ _ rfl rfl (ix3 q i j) ?_ ?_).trans ?_
  · intro b hb
    match b, hb with
    | ⟨0, _⟩, _ => rfl
    | ⟨1, _⟩, hb => exact absurd rfl hb
    | ⟨2, _⟩, _ => rfl
  · show i.val + 3 = 3 + i.val
    omega
  rw [val_main_v1_apply, val_main_v0_apply]
  unfold cell
  have hq := q.isLt
  have hi := i.isLt
  have hj := j.isLt
  refine congrArg _ (Shape.idx_ext₂ ?_ ?_)
  · show 8192 + ((q.val * 8 + i.val) * 1536 + j.val) / 1536 = (8192 + q.val * 8 + i.val) % 8256
    omega
  · show 3584 + ((q.val * 8 + i.val) * 1536 + j.val) % 1536 = (3584 + j.val) % 5760
    omega

/-- At point `t` the windows on the projection sit at row block `1024 + t` and column blocks 7, 8 and 9 of 512, the output window at sequence `t`. -/
theorem place : ∀ t : Fin cfg0.N, win0_0.index t = ![1024 + t.val, 7] ∧ win0_1.index t = ![1024 + t.val, 8] ∧ win0_2.index t = ![1024 + t.val, 9]
    ∧ win0_12.index t = ![t.val, 0, 0] :=
  (by decide +kernel : ∀ t : Fin grid0.N, _)

/-- The three blocks of a point are the three thirds of the convolution's input columns over the point's rows. -/
theorem blocks_at (c : Dev nD) (t : Fin cfg0.N) (i : Fin 8) (j : Fin 512) :
    X0_0 m c t (ix2 i j) = cell m c (8192 + t.val * 8 + i) j ∧ X0_1 m c t (ix2 i j) = cell m c (8192 + t.val * 8 + i) (512 + j)
    ∧ X0_2 m c t (ix2 i j) = cell m c (8192 + t.val * 8 + i) (1024 + j) := by
  have ht : t.val < 8 := lt_of_lt_of_eq t.isLt N_0
  refine ⟨?_, ?_, ?_⟩
  · unfold X0_0 Pipeline.Window.fill
    rw [dif_pos (moved0_0 t _)]
    unfold cell
    blk_ext [iblk, V, place t]
    · show _ = _ % 8256; omega
    · show _ = _ % 5760; omega
  · unfold X0_1 Pipeline.Window.fill
    rw [dif_pos (moved0_1 t _)]
    unfold cell
    blk_ext [iblk, V, place t]
    · show _ = _ % 8256; omega
    · show _ = _ % 5760; omega
  · unfold X0_2 Pipeline.Window.fill
    rw [dif_pos (moved0_2 t _)]
    unfold cell
    blk_ext [iblk, V, place t]
    · show _ = _ % 8256; omega
    · show _ = _ % 5760; omega

/-- The output block of a point is the last 8 rows of its scratch, which are the sequence's 8 new rows of the convolution's input. -/
theorem out (c : Dev nD) (t : Fin cfg0.N) (i : Fin 8) (j : Fin 1536) : (outsAt0 m c t).2.1 (ix3 0 i j) = cell m c (8192 + t.val * 8 + i) j := by
  dsimp only [outsAt0]
  frame_out
  rw [View.readCov_eq_canon']
  pointwise [k0_pay8]
  refine (View.canon_append_of_piecesOf (fun y : S16x1536.Idx => cell m c (8192 + t.val * 8 + ((y 0).val - 8)) (y 1).val) [_] [_, _, _] ⟨?_, ?_, ?_, trivial⟩ _ ?_).trans ?_
  · intro x
    obtain ⟨a, b, rfl⟩ : ∃ (a : Fin 8) (b : Fin 512), x = ix2 a b := ⟨x 0, x 1, eq_ix2 (n0 := 8) (n1 := 512) x⟩
    refine (congrFun (shapeCast_self (X0_2 m c t) _) (ix2 a b)).trans ((blocks_at m c t a b).2.2.trans ?_)
    show cell m c (8192 + t.val * 8 + a) (1024 + b) = cell m c (8192 + t.val * 8 + (8 + 1 * a.val - 8)) (1024 + 1 * b.val)
    rw [one_mul, one_mul, Nat.add_sub_cancel_left]
  · intro x
    obtain ⟨a, b, rfl⟩ : ∃ (a : Fin 8) (b : Fin 512), x = ix2 a b := ⟨x 0, x 1, eq_ix2 (n0 := 8) (n1 := 512) x⟩
    refine (congrFun (shapeCast_self (X0_1 m c t) _) (ix2 a b)).trans ((blocks_at m c t a b).2.1.trans ?_)
    show cell m c (8192 + t.val * 8 + a) (512 + b) = cell m c (8192 + t.val * 8 + (8 + 1 * a.val - 8)) (512 + 1 * b.val)
    rw [one_mul, one_mul, Nat.add_sub_cancel_left]
  · intro x
    obtain ⟨a, b, rfl⟩ : ∃ (a : Fin 8) (b : Fin 512), x = ix2 a b := ⟨x 0, x 1, eq_ix2 (n0 := 8) (n1 := 512) x⟩
    refine (congrFun (shapeCast_self (X0_0 m c t) _) (ix2 a b)).trans ((blocks_at m c t a b).1.trans ?_)
    show cell m c (8192 + t.val * 8 + a) b = cell m c (8192 + t.val * 8 + (8 + 1 * a.val - 8)) (0 + 1 * b.val)
    rw [one_mul, one_mul, zero_add, Nat.add_sub_cancel_left]
  · have hj := j.isLt
    have hi := i.isLt
    obtain h | h | h : j.val < 512 ∨ (512 ≤ j.val ∧ j.val < 1024) ∨ 1024 ≤ j.val := by omega
    · refine ⟨_, .tail _ (.tail _ (.head _)), ?_⟩
      show ix2 (n0 := 16) (n1 := 1536) ⟨8 + i.val, by omega⟩ j ∈ (Rect.unit (s := S16x1536) ![8, 0] ![8, 512] inb_S16x1536_S8x512_8_0).set
      refine Rect.mem_set_unit.2 (Fin.forall_fin_two.2 ⟨?_, ?_⟩)
      · show 8 ≤ 8 + i.val ∧ 8 + i.val < 8 + 8; omega
      · show 0 ≤ j.val ∧ j.val < 0 + 512; omega
    · refine ⟨_, .tail _ (.head _), ?_⟩
      show ix2 (n0 := 16) (n1 := 1536) ⟨8 + i.val, by omega⟩ j ∈ (Rect.unit (s := S16x1536) ![8, 512] ![8, 512] inb_S16x1536_S8x512_8_512).set
      refine Rect.mem_set_unit.2 (Fin.forall_fin_two.2 ⟨?_, ?_⟩)
      · show 8 ≤ 8 + i.val ∧ 8 + i.val < 8 + 8; omega
      · show 512 ≤ j.val ∧ j.val < 512 + 512; omega
    · refine ⟨_, .head _, ?_⟩
      show ix2 (n0 := 16) (n1 := 1536) ⟨8 + i.val, by omega⟩ j ∈ (Rect.unit (s := S16x1536) ![8, 1024] ![8, 512] inb_S16x1536_S8x512_8_1024).set
      refine Rect.mem_set_unit.2 (Fin.forall_fin_two.2 ⟨?_, ?_⟩)
      · show 8 ≤ 8 + i.val ∧ 8 + i.val < 8 + 8; omega
      · show 1024 ≤ j.val ∧ j.val < 1024 + 512; omega
  · show cell m c (8192 + t.val * 8 + (8 + i.val - 8)) j.val = _
    rw [Nat.add_sub_cancel_left]

/-- The array after the run is the reference's result over the argument arrays. -/
theorem final (c : Dev nD) : (dats m 0 c).arrAt 12 (cfgs 0).N = result m c := by
  refine (dats m 0 c).arrAt_eq_of_covers 12 _ (by decide +kernel) fun t _ y => ?_
  blk_simp
  rw [after0_12]
  obtain ⟨a, b, j, rfl⟩ : ∃ (a : Fin 1) (b : Fin 8) (j : Fin 1536), y = ix3 a b j :=
    ⟨y 0, y 1, y 2, eq_ix3 (n0 := 1) (n1 := 8) (n2 := 1536) y⟩
  obtain rfl : a = 0 := Subsingleton.elim _ _
  have hN : t.val < 8 := lt_of_lt_of_eq t.isLt N_0
  refine (out m c t b j).trans ((result_at m c ⟨t.val, hN⟩ b j).symm.trans (congrArg _ ?_))
  blk_ext [place t]

end Cert.ConvSIdeal.Value

end
-- ==== Proof.ConvPValue.lean ====
/- The convolution's last 8 rows that the DeltaNet call leaves for the prompt, equal to the reference's. -/
module

public import proofs.«01_k».proof.Proof.Gen.ConvP.Frame
public import proofs.«01_k».proof.Proof.Gen.ConvPIdeal.Value
public import proofs.«01_k».proof.Proof.Gen.ConvPRefIdeal.Run
public import proofs.«01_k».proof.Proof.Gen.ConvPRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvPIdeal.Value

open Cert.ConvPIdeal Cert.ConvPIdeal.Gen
open Cert.ConvPRefIdeal.Read

variable (m : (ℓ : Loc nD τ sig) → Buf (Elt Ideal) ℓ)

/-- The columns of the convolution's input in the projection: row `r`, column `j` of the 1536. -/
def cell (c : Dev nD) (r j : ℕ) : EReal := m ((c : Thread nD τ).loc main_arg0) (ix2 (Fin.ofNat 8256 r) (Fin.ofNat 5760 (3584 + j)))

/-- The reference's result over the argument arrays. -/
abbrev result (c : Dev nD) : S2x8x1536.Idx → EReal :=
  val_main_v4 (F := Ideal) (m ((c : Thread nD τ).loc main_arg0))

/-- One element of the reference's result is an element of the convolution's input columns. -/
theorem result_at (c : Dev nD) (q : Fin 2) (i : Fin 8) (j : Fin 1536) : result m c (ix3 q i j) = cell m c (4096 * q.val + 4088 + i) j := by
  have hq := q.isLt
  have hi := i.isLt
  have hj := j.isLt
  rw [result, val_main_v4_apply, val_main_v3]
  refine (concatenate_pair_apply_right (t := Cert.ConvPRefIdeal.S2x4099x1536) (s₁ := Cert.ConvPRefIdeal.S2x3x1536) (s₂ := Cert.ConvPRefIdeal.S2x4096x1536) 1
    _ _ _ _ rfl rfl (ix3 q ⟨4088 + i.val, by omega⟩ j) ?_ ?_).trans ?_
  · intro b hb
    match b, hb with
    | ⟨0, _⟩, _ => rfl
    | ⟨1, _⟩, hb => exact absurd rfl hb
    | ⟨2, _⟩, _ => rfl
  · show 4088 + i.val + 3 = 4091 + i.val
    omega
  rw [val_main_v1_apply, val_main_v0_apply]
  unfold cell
  refine congrArg _ (Shape.idx_ext₂ ?_ ?_)
  · show ((q.val * 4096 + (4088 + i.val)) * 1536 + j.val) / 1536 = (4096 * q.val + 4088 + i.val) % 8256
    omega
  · show 3584 + ((q.val * 4096 + (4088 + i.val)) * 1536 + j.val) % 1536 = (3584 + j.val) % 5760
    omega

/-- At point `t` the windows on the projection sit at row block `t` and column blocks 7, 8 and 9 of 512, the output window at sequence `t / 64`. -/
theorem place : ∀ t : Fin cfg0.N, win0_0.index t = ![t.val, 7] ∧ win0_1.index t = ![t.val, 8] ∧ win0_2.index t = ![t.val, 9]
    ∧ win0_12.index t = ![t.val / 64, 0, 0] :=
  (by decide +kernel : ∀ t : Fin grid0.N, _)

/-- The three blocks of a point are the three thirds of the convolution's input columns over the point's rows. -/
theorem blocks_at (c : Dev nD) (t : Fin cfg0.N) (i : Fin 64) (j : Fin 512) :
    X0_0 m c t (ix2 i j) = cell m c (t.val * 64 + i) j ∧ X0_1 m c t (ix2 i j) = cell m c (t.val * 64 + i) (512 + j)
    ∧ X0_2 m c t (ix2 i j) = cell m c (t.val * 64 + i) (1024 + j) := by
  have ht : t.val < 128 := lt_of_lt_of_eq t.isLt N_0
  refine ⟨?_, ?_, ?_⟩
  · unfold X0_0 Pipeline.Window.fill
    rw [dif_pos (moved0_0 t _)]
    unfold cell
    blk_ext [iblk, V, place t]
    · show _ = _ % 8256; omega
    · show _ = _ % 5760; omega
  · unfold X0_1 Pipeline.Window.fill
    rw [dif_pos (moved0_1 t _)]
    unfold cell
    blk_ext [iblk, V, place t]
    · show _ = _ % 8256; omega
    · show _ = _ % 5760; omega
  · unfold X0_2 Pipeline.Window.fill
    rw [dif_pos (moved0_2 t _)]
    unfold cell
    blk_ext [iblk, V, place t]
    · show _ = _ % 8256; omega
    · show _ = _ % 5760; omega

/-- The output block of a sequence's last point is the last 8 rows of its scratch, which are the last 8 of the point's 64 rows of the convolution's input. -/
theorem out (c : Dev nD) (t : Fin cfg0.N) (ht : t.val % 64 = 63) (i : Fin 8) (j : Fin 1536) :
    (outsAt0 m c t.val t.isLt).2.1 (ix3 0 i j) = cell m c (t.val * 64 + 56 + i) j := by
  rw [outsAt0_C m c t (by omega) ht]
  dsimp only
  frame_out
  rw [View.readCov_eq_canon']
  pointwise [k0_pay8]
  refine (View.canon_append_of_piecesOf (fun y : S72x1536.Idx => cell m c (t.val * 64 + ((y 0).val - 8)) (y 1).val) [] [_, _, _] ⟨?_, ?_, ?_, trivial⟩ _ ?_).trans ?_
  · intro x
    obtain ⟨a, b, rfl⟩ : ∃ (a : Fin 64) (b : Fin 512), x = ix2 a b := ⟨x 0, x 1, eq_ix2 (n0 := 64) (n1 := 512) x⟩
    refine (congrFun (shapeCast_self (X0_2 m c t) _) (ix2 a b)).trans ((blocks_at m c t a b).2.2.trans ?_)
    show cell m c (t.val * 64 + a) (1024 + b) = cell m c (t.val * 64 + (8 + 1 * a.val - 8)) (1024 + 1 * b.val)
    rw [one_mul, one_mul, Nat.add_sub_cancel_left]
  · intro x
    obtain ⟨a, b, rfl⟩ : ∃ (a : Fin 64) (b : Fin 512), x = ix2 a b := ⟨x 0, x 1, eq_ix2 (n0 := 64) (n1 := 512) x⟩
    refine (congrFun (shapeCast_self (X0_1 m c t) _) (ix2 a b)).trans ((blocks_at m c t a b).2.1.trans ?_)
    show cell m c (t.val * 64 + a) (512 + b) = cell m c (t.val * 64 + (8 + 1 * a.val - 8)) (512 + 1 * b.val)
    rw [one_mul, one_mul, Nat.add_sub_cancel_left]
  · intro x
    obtain ⟨a, b, rfl⟩ : ∃ (a : Fin 64) (b : Fin 512), x = ix2 a b := ⟨x 0, x 1, eq_ix2 (n0 := 64) (n1 := 512) x⟩
    refine (congrFun (shapeCast_self (X0_0 m c t) _) (ix2 a b)).trans ((blocks_at m c t a b).1.trans ?_)
    show cell m c (t.val * 64 + a) b = cell m c (t.val * 64 + (8 + 1 * a.val - 8)) (0 + 1 * b.val)
    rw [one_mul, one_mul, zero_add, Nat.add_sub_cancel_left]
  · have hj := j.isLt
    have hi := i.isLt
    obtain h | h | h : j.val < 512 ∨ (512 ≤ j.val ∧ j.val < 1024) ∨ 1024 ≤ j.val := by omega
    · refine ⟨_, .tail _ (.tail _ (.head _)), ?_⟩
      show ix2 (n0 := 72) (n1 := 1536) ⟨64 + i.val, by omega⟩ j ∈ (Rect.unit (s := S72x1536) ![8, 0] ![64, 512] inb_S72x1536_S64x512_8_0).set
      refine Rect.mem_set_unit.2 (Fin.forall_fin_two.2 ⟨?_, ?_⟩)
      · show 8 ≤ 64 + i.val ∧ 64 + i.val < 8 + 64; omega
      · show 0 ≤ j.val ∧ j.val < 0 + 512; omega
    · refine ⟨_, .tail _ (.head _), ?_⟩
      show ix2 (n0 := 72) (n1 := 1536) ⟨64 + i.val, by omega⟩ j ∈ (Rect.unit (s := S72x1536) ![8, 512] ![64, 512] inb_S72x1536_S64x512_8_512).set
      refine Rect.mem_set_unit.2 (Fin.forall_fin_two.2 ⟨?_, ?_⟩)
      · show 8 ≤ 64 + i.val ∧ 64 + i.val < 8 + 64; omega
      · show 512 ≤ j.val ∧ j.val < 512 + 512; omega
    · refine ⟨_, .head _, ?_⟩
      show ix2 (n0 := 72) (n1 := 1536) ⟨64 + i.val, by omega⟩ j ∈ (Rect.unit (s := S72x1536) ![8, 1024] ![64, 512] inb_S72x1536_S64x512_8_1024).set
      refine Rect.mem_set_unit.2 (Fin.forall_fin_two.2 ⟨?_, ?_⟩)
      · show 8 ≤ 64 + i.val ∧ 64 + i.val < 8 + 64; omega
      · show 1024 ≤ j.val ∧ j.val < 1024 + 512; omega
  · show cell m c (t.val * 64 + (64 + i.val - 8)) j.val = _
    rw [show t.val * 64 + (64 + i.val - 8) = t.val * 64 + 56 + i.val by omega]

/-- The output block is written back at the last chunk of each sequence only. -/
theorem last : ∀ t : Fin cfg0.N, (cfg0.win 12).flush t = true → t.val % 64 = 63 :=
  (by decide +kernel : ∀ t : Fin grid0.N, _)

/-- The array after the run is the reference's result over the argument arrays. -/
theorem final (c : Dev nD) : (dats m 0 c).arrAt 12 (cfgs 0).N = result m c := by
  refine (dats m 0 c).arrAt_eq_of_covers 12 _ (by decide +kernel) fun t hf y => ?_
  blk_simp
  rw [after0_12]
  obtain ⟨a, b, j, rfl⟩ : ∃ (a : Fin 1) (b : Fin 8) (j : Fin 1536), y = ix3 a b j :=
    ⟨y 0, y 1, y 2, eq_ix3 (n0 := 1) (n1 := 8) (n2 := 1536) y⟩
  obtain rfl : a = 0 := Subsingleton.elim _ _
  have hN : t.val < 128 := lt_of_lt_of_eq t.isLt N_0
  have ht := last t hf
  refine (out m c t ht b j).trans (Eq.trans ?_ ((result_at m c ⟨t.val / 64, by omega⟩ b j).symm.trans (congrArg _ ?_)))
  · exact congrArg (fun r => cell m c r j) (by show t.val * 64 + 56 + b.val = 4096 * (t.val / 64) + 4088 + b.val; omega)
  · blk_ext [place t]

end Cert.ConvPIdeal.Value

end
-- ==== Proof.lean ====
/- The proof of the claim: the frames of the eight calls, of their readings over the extended reals and of the references, and that each
   reading computes its reference. The value of each call is proved in a module of its own (AttSValue, ConvPValue, ConvSValue, FfnValue, GateValue, ProjValue, OutValue, PleValue). -/
module

public import proofs.«01_k».proof.Proof.Gen.AttS.Frame
public import proofs.«01_k».proof.Proof.Gen.AttSIdeal.Frame
public import proofs.«01_k».proof.Proof.Gen.AttSRefIdeal.Run
public import proofs.«01_k».proof.Proof.Gen.AttSRefIdeal.Read
public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.AttSValue
public import proofs.«01_k».proof.Proof.FfnValue
public import proofs.«01_k».proof.Proof.ProjValue
public import proofs.«01_k».proof.Proof.OutValue
public import proofs.«01_k».proof.Proof.PleValue
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.GateValue
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSRefIdeal
public import proofs.«01_k».proof.Proof.Gen.ConvSIdeal.Value
public import proofs.«01_k».proof.Proof.Gen.ConvSRefIdeal.Run
public import proofs.«01_k».proof.Proof.Gen.ConvSRefIdeal.Read
public import proofs.«01_k».proof.Proof.ConvSValue
public import proofs.«01_k».proof.Proof.Gen.ConvP
public import proofs.«01_k».proof.Proof.Gen.ConvP.Skeleton
public import proofs.«01_k».proof.Proof.Gen.ConvP.Launch
public import proofs.«01_k».proof.Proof.Gen.ConvP.Points
public import proofs.«01_k».proof.Proof.Gen.ConvP.Frame
public import proofs.«01_k».proof.Proof.Gen.ConvPIdeal
public import proofs.«01_k».proof.Proof.Gen.ConvPIdeal.Skeleton
public import proofs.«01_k».proof.Proof.Gen.ConvPIdeal.Launch
public import proofs.«01_k».proof.Proof.Gen.ConvPIdeal.Points
public import proofs.«01_k».proof.Proof.Gen.ConvPIdeal.Frame
public import proofs.«01_k».proof.Proof.Gen.ConvPRefIdeal
public import proofs.«01_k».proof.Proof.Gen.ConvPIdeal.Value
public import proofs.«01_k».proof.Proof.Gen.ConvPRefIdeal.Run
public import proofs.«01_k».proof.Proof.Gen.ConvPRefIdeal.Read
public import proofs.«01_k».proof.Proof.ConvPValue
public import Idealize.ShloMosaic.Adequacy
public import Idealize.ShloMosaic.Init
public import Idealize.ShloMosaic.Lib.Claim

@[expose] public section

noncomputable section

namespace Cert.Proof

open Idealize.ShloMosaic Idealize.SL.Sem

/-- The feed-forward call, over the extended reals, leaves what its reference computes. -/
theorem ffn_value : Cert.algebraic_FfnIdeal_FfnRefIdeal := by
  pair_intro
  · run_from Cert.FfnIdeal.Gen.run_main m g
  · run_from Cert.FfnRefIdeal.Value.run m' g'
    obtain ⟨a0, a1, a2, a3, a4⟩ := hagree c
    rw [Cert.FfnIdeal.Value.final m c, ← a0, ← a1, ← a2, ← a3, ← a4]
    exact Cert.FfnRefIdeal.Read.val_main_v20_eq (F := Ideal) _ _ _ _ _

/-- The input projection, over the extended reals, leaves what its reference computes. -/
theorem proj_value : Cert.algebraic_ProjIdeal_ProjRefIdeal := by
  pair_intro
  · run_from Cert.ProjIdeal.Gen.run_main m g
    all_goals rfl
  · run_from Cert.ProjRefIdeal.Value.run m' g'
    obtain ⟨a0, a1, a2⟩ := hagree c
    rw [Cert.ProjIdeal.Value.final m c, ← a0, ← a1, ← a2]
    exact Cert.ProjRefIdeal.Read.val_main_v14_eq (F := Ideal) _ _ _

/-- The output projection, over the extended reals, leaves what its reference computes. -/
theorem out_value : Cert.algebraic_OutIdeal_OutRefIdeal := by
  pair_intro
  · run_from Cert.OutIdeal.Gen.run_main m g
  · run_from Cert.OutRefIdeal.Value.run m' g'
    obtain ⟨a0, a1, a2, a3, a4⟩ := hagree c
    rw [Cert.OutIdeal.Value.final m c, ← a0, ← a1, ← a2, ← a3, ← a4]
    exact Cert.OutRefIdeal.Read.val_main_v2_eq (F := Ideal) _ _ _ _ _

/-- The per-layer embedding call with the final norm, over the extended reals, leaves what its reference computes. -/
theorem ple_value : Cert.algebraic_PleIdeal_PleRefIdeal := by
  pair_intro
  · run_from Cert.PleIdeal.Gen.run_main m g
  · run_from Cert.PleRefIdeal.Value.run m' g'
    obtain ⟨a0, a1, a2, a3, a4, a5⟩ := hagree c
    rw [Cert.PleIdeal.Value.final m c, ← a0, ← a1, ← a2, ← a3, ← a4, ← a5]
    exact Cert.PleRefIdeal.Read.val_main_v35_eq m' c

/-- The per-layer embedding call without the final norm, over the extended reals, leaves what its reference computes. -/
theorem gate_value : Cert.algebraic_GateIdeal_GateRefIdeal := by
  pair_intro
  · run_from Cert.GateIdeal.Gen.run_main m g
  · run_from Cert.GateRefIdeal.Value.run m' g'
    obtain ⟨a0, a1, a2, a3, a4, a5⟩ := hagree c
    rw [Cert.GateIdeal.Value.final m c, Cert.GateIdeal.Value.result, ← a0, ← a1, ← a2, ← a3, ← a4]
    exact Cert.GateRefIdeal.Read.val_main_v22_eq (F := Ideal) _ _ _ _ _

/-- The DeltaNet call for the new rows, over the extended reals, leaves the last 8 rows of the convolution's input that its reference takes. -/
theorem convs_value : Cert.algebraic_ConvSIdeal_ConvSRefIdeal := by
  intro m g m' g' hpre hagree
  refine ⟨fun c => Cert.ConvSIdeal.Value.result m c, ?_, ?_⟩
  · exact (θ_run Cert.ConvSIdeal.defs _ _).mono (fun r h c => ⟨(h c).2.1.trans (Cert.ConvSIdeal.Value.final m c), (h c).2.2.2⟩)
      (Cert.ConvSIdeal.Value.run_blocks m g)
  · refine (θ_run Cert.ConvSRefIdeal.defs _ _).mono (fun r h c => ⟨(h c).1.trans ?_, (h c).2⟩) (Cert.ConvSRefIdeal.Value.run m' g')
    refine (Cert.ConvSRefIdeal.Read.val_main_v3_eq (F := Ideal) _ _).trans ?_
    rw [(hagree c).1, (hagree c).2.1]

/-- The DeltaNet call for the prompt, over the extended reals, leaves the last 8 rows of the convolution's input that its reference takes. -/
theorem convp_value : Cert.algebraic_ConvPIdeal_ConvPRefIdeal := by
  intro m g m' g' hpre hagree
  refine ⟨fun c => Cert.ConvPIdeal.Value.result m c, ?_, ?_⟩
  · exact (θ_run Cert.ConvPIdeal.defs _ _).mono
      (fun r h c => ⟨(h c).2.1.trans ((Cert.ConvPIdeal.Value.final12 m c).symm.trans (Cert.ConvPIdeal.Value.final m c)), (h c).2.2.2⟩)
      (Cert.ConvPIdeal.Value.run m g)
  · refine (θ_run Cert.ConvPRefIdeal.defs _ _).mono (fun r h c => ⟨(h c).1.trans ?_, (h c).2⟩) (Cert.ConvPRefIdeal.Value.run m' g')
    refine (Cert.ConvPRefIdeal.Read.val_main_v4_eq (F := Ideal) _).trans ?_
    rw [(hagree c).1]

/-- The attention of the new rows over the paged cache, over the extended reals, leaves what its reference computes, when the table names
    pages of the cache and the numbers are finite. -/
theorem atts_value : Cert.algebraic_AttSIdeal_AttSRefIdeal_pre_pages_named_finite := by
  intro m g m' g' hpre hagree
  refine ⟨fun c => Cert.AttSIdeal.result m c, ?_, ?_⟩
  · exact (θ_run Cert.AttSIdeal.defs _ _).mono (fun r h c => ⟨h.1 c, h.2 c⟩)
      (θ_run_and (Cert.AttSIdeal.run hpre g) (Cert.AttSIdeal.Gen.unchanged m g (Cert.AttSIdeal.ok_of_pre m (Cert.AttSIdeal.weaker hpre))))
  · refine (θ_run Cert.AttSRefIdeal.defs _ _).mono (fun r h c => ⟨(h c).1.trans ?_, (h c).2⟩) (Cert.AttSRefIdeal.Value.run m' g')
    obtain ⟨a0, a1, a2, a3, a4, a5, a6, a7, a8⟩ := hagree c
    refine (Cert.AttSRefIdeal.Read.val_main_v107_eq m' c).trans ?_
    rw [a0, a1, a2, a3, a4, a5, a6, a7, a8]

/-- The attention's reference keeps its arguments and leaves the semaphores at zero. -/
theorem atts_ref : Cert.quiescent_AttSRefIdeal := fun m g _ =>
  (θ_run Cert.AttSRefIdeal.defs _ _).mono (fun r h => ⟨fun c => (h c).2, sem_eq_zero_of_no_sems (by decide) r.2⟩) (Cert.AttSRefIdeal.Value.run m g)

/-- The claim: every program keeps its arguments and leaves the semaphores at zero, each idealization is the kernel's, and each
    kernel's reading computes its reference. -/
theorem claim : Cert.Claim := ⟨Cert.Ffn.Gen.facts, Cert.FfnIdeal.Gen.facts, Cert.FfnRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Ple.Gen.facts, Cert.PleIdeal.Gen.facts, Cert.PleRefIdeal.Gen.facts,
  Cert.Gate.Gen.facts, Cert.GateIdeal.Gen.facts, Cert.GateRefIdeal.Gen.facts,
  Cert.ConvS.Gen.facts, Cert.ConvSIdeal.Gen.facts, Cert.ConvSRefIdeal.Gen.facts,
  Cert.ConvP.Gen.facts, Cert.ConvPIdeal.Gen.facts, Cert.ConvPRefIdeal.Gen.facts,
  Cert.AttS.Gen.facts, Cert.AttSIdeal.Gen.facts, Cert.AttSRefIdeal.Gen.facts, Cert.AttSIdeal.preFacts, Cert.AttSIdeal.preFactsFinite,
  fun m g _ => Cert.Ffn.Gen.frame m g, fun m g _ => Cert.FfnIdeal.Gen.frame m g,
  fun m g _ => (θ_run Cert.FfnRefIdeal.defs _ _).mono (fun r h => ⟨fun c => (h c).2, sem_eq_zero_of_no_sems (by decide) r.2⟩) (Cert.FfnRefIdeal.Value.run m g), fun m g _ => Cert.Proj.Gen.frame m g, fun m g _ => Cert.ProjIdeal.Gen.frame m g,
  fun m g _ => (θ_run Cert.ProjRefIdeal.defs _ _).mono (fun r h => ⟨fun c => (h c).2, sem_eq_zero_of_no_sems (by decide) r.2⟩) (Cert.ProjRefIdeal.Value.run m g), fun m g _ => Cert.Out.Gen.frame m g, fun m g _ => Cert.OutIdeal.Gen.frame m g,
  fun m g _ => (θ_run Cert.OutRefIdeal.defs _ _).mono (fun r h => ⟨fun c => (h c).2, sem_eq_zero_of_no_sems (by decide) r.2⟩) (Cert.OutRefIdeal.Value.run m g), fun m g _ => Cert.Ple.Gen.frame m g, fun m g _ => Cert.PleIdeal.Gen.frame m g,
  fun m g _ => (θ_run Cert.PleRefIdeal.defs _ _).mono (fun r h => ⟨fun c => (h c).2, sem_eq_zero_of_no_sems (by decide) r.2⟩) (Cert.PleRefIdeal.Value.run m g),
  fun m g _ => Cert.Gate.Gen.frame m g, fun m g _ => Cert.GateIdeal.Gen.frame m g,
  fun m g _ => (θ_run Cert.GateRefIdeal.defs _ _).mono (fun r h => ⟨fun c => (h c).2, sem_eq_zero_of_no_sems (by decide) r.2⟩) (Cert.GateRefIdeal.Value.run m g),
  fun m g _ => Cert.ConvS.Gen.frame m g, fun m g _ => Cert.ConvSIdeal.Gen.frame m g,
  fun m g _ => (θ_run Cert.ConvSRefIdeal.defs _ _).mono (fun r h => ⟨fun c => (h c).2, sem_eq_zero_of_no_sems (by decide) r.2⟩) (Cert.ConvSRefIdeal.Value.run m g),
  fun m g _ => Cert.ConvP.Gen.frame m g, fun m g _ => Cert.ConvPIdeal.Gen.frame m g,
  fun m g _ => (θ_run Cert.ConvPRefIdeal.defs _ _).mono (fun r h => ⟨fun c => (h c).2, sem_eq_zero_of_no_sems (by decide) r.2⟩) (Cert.ConvPRefIdeal.Value.run m g),
  fun m g h => Cert.AttS.Gen.frame m g (Cert.AttSIdeal.bits_ok_of_pre m h), fun m g h => Cert.AttSIdeal.Gen.frame m g (Cert.AttSIdeal.ok_of_pre m h),
  fun m g h => Cert.AttSIdeal.Gen.frame m g (Cert.AttSIdeal.ok_of_pre m (Cert.AttSIdeal.weaker h)),
  atts_ref, fun m g _ => atts_ref m g trivial,
  trivial, ffn_value, trivial, proj_value, trivial, out_value, trivial, ple_value, trivial, gate_value, trivial, convs_value, trivial, convp_value,
  IdealRules.named_const.statement Cert.AttSIdeal.κ "mask" .f32 0xF149F2CA#32 ⊥ rfl, atts_value⟩

end Cert.Proof

end
